-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S2048 : Shape := ⟨1, ![2048]⟩
abbrev S16x4x2048 : Shape := ⟨3, ![16, 4, 2048]⟩
abbrev S4096x2048 : Shape := ⟨2, ![4096, 2048]⟩
abbrev S16x2048x2048 : Shape := ⟨3, ![16, 2048, 2048]⟩
abbrev S16x2048 : Shape := ⟨2, ![16, 2048]⟩
abbrev S16x2048x16 : Shape := ⟨3, ![16, 2048, 16]⟩
abbrev S16x16 : Shape := ⟨2, ![16, 16]⟩
abbrev S2048x2048 : Shape := ⟨2, ![2048, 2048]⟩
abbrev S2048x16 : Shape := ⟨2, ![2048, 16]⟩
abbrev S16 : Shape := ⟨1, ![16]⟩
abbrev S32x16 : Shape := ⟨2, ![32, 16]⟩
abbrev S_ : Shape := ⟨0, ![]⟩
abbrev S16x4 : Shape := ⟨2, ![16, 4]⟩
abbrev S16x4x1 : Shape := ⟨3, ![16, 4, 1]⟩
abbrev S1x2048 : Shape := ⟨2, ![1, 2048]⟩
abbrev S8192x16 : Shape := ⟨2, ![8192, 16]⟩
abbrev S256x2048 : Shape := ⟨2, ![256, 2048]⟩
abbrev S256x16 : Shape := ⟨2, ![256, 16]⟩
abbrev S256 : Shape := ⟨1, ![256]⟩
abbrev S256x1 : Shape := ⟨2, ![256, 1]⟩
abbrev S1x16 : Shape := ⟨2, ![1, 16]⟩
abbrev S16x1x2048 : Shape := ⟨3, ![16, 1, 2048]⟩
abbrev S16x1x16 : Shape := ⟨3, ![16, 1, 16]⟩
abbrev S16x8192x16 : Shape := ⟨3, ![16, 8192, 16]⟩
abbrev S1x2048x2048 : Shape := ⟨3, ![1, 2048, 2048]⟩
abbrev S1x1x2048 : Shape := ⟨3, ![1, 1, 2048]⟩
abbrev S1x2048x16 : Shape := ⟨3, ![1, 2048, 16]⟩
abbrev S1x1x16 : Shape := ⟨3, ![1, 1, 16]⟩
abbrev S1x512x16 : Shape := ⟨3, ![1, 512, 16]⟩
abbrev S512x2048 : Shape := ⟨2, ![512, 2048]⟩
abbrev S512x16 : Shape := ⟨2, ![512, 16]⟩
abbrev S16x512x16 : Shape := ⟨3, ![16, 512, 16]⟩
abbrev S512x1 : Shape := ⟨2, ![512, 1]⟩
abbrev S512 : Shape := ⟨1, ![512]⟩
abbrev S65536x2 : Shape := ⟨2, ![65536, 2]⟩

abbrev nBuf : Space → Nat
  | .hbm => 52
  | .vmem => 42
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S2048, .f32⟩
  | .hbm, ⟨4, _⟩ => ⟨S16x4x2048, .f32⟩
  | .hbm, ⟨5, _⟩ => ⟨S4096x2048, .f32⟩
  | .hbm, ⟨6, _⟩ => ⟨S2048, .f32⟩
  | .hbm, ⟨7, _⟩ => ⟨S16x2048x2048, .f32⟩
  | .hbm, ⟨8, _⟩ => ⟨S16x2048, .f32⟩
  | .hbm, ⟨9, _⟩ => ⟨S16x2048x16, .f32⟩
  | .hbm, ⟨10, _⟩ => ⟨S16x16, .f32⟩
  | .hbm, ⟨11, _⟩ => ⟨S2048x2048, .f32⟩
  | .hbm, ⟨12, _⟩ => ⟨S2048, .f32⟩
  | .hbm, ⟨13, _⟩ => ⟨S2048x16, .f32⟩
  | .hbm, ⟨14, _⟩ => ⟨S16, .f32⟩
  | .hbm, ⟨15, _⟩ => ⟨S32x16, .f32⟩
  | .hbm, ⟨16, _⟩ => ⟨S16, .f32⟩
  | .hbm, ⟨17, _⟩ => ⟨S16x4x2048, .f32⟩
  | .hbm, ⟨18, _⟩ => ⟨S_, .f32⟩
  | .hbm, ⟨19, _⟩ => ⟨S16x4, .f32⟩
  | .hbm, ⟨20, _⟩ => ⟨S16x4x1, .f32⟩
  | .hbm, ⟨21, _⟩ => ⟨S16x4x1, .f32⟩
  | .hbm, ⟨22, _⟩ => ⟨S_, .f32⟩
  | .hbm, ⟨23, _⟩ => ⟨S_, .f32⟩
  | .hbm, ⟨24, _⟩ => ⟨S16x4x1, .f32⟩
  | .hbm, ⟨25, _⟩ => ⟨S16x4x1, .f32⟩
  | .hbm, ⟨26, _⟩ => ⟨S16x4x2048, .f32⟩
  | .hbm, ⟨27, _⟩ => ⟨S16x4x2048, .f32⟩
  | .hbm, ⟨28, _⟩ => ⟨S_, .f32⟩
  | .hbm, ⟨29, _⟩ => ⟨S16x2048, .f32⟩
  | .hbm, ⟨30, _⟩ => ⟨S_, .f32⟩
  | .hbm, ⟨31, _⟩ => ⟨S16x2048, .f32⟩
  | .hbm, ⟨32, _⟩ => ⟨S16x2048, .f32⟩
  | .hbm, ⟨33, _⟩ => ⟨S2048x16, .f32⟩
  | .hbm, ⟨34, _⟩ => ⟨S1x2048, .f32⟩
  | .hbm, ⟨35, _⟩ => ⟨S1x2048, .f32⟩
  | .hbm, ⟨36, _⟩ => ⟨S1x2048, .f32⟩
  | .hbm, ⟨37, _⟩ => ⟨S8192x2048, .bf16⟩
  | .hbm, ⟨38, _⟩ => ⟨S8192x16, .f32⟩
  | .hbm, ⟨39, _⟩ => ⟨S2048x2048, .bf16⟩
  | .hbm, ⟨40, _⟩ => ⟨S2048x16, .bf16⟩
  | .hbm, ⟨41, _⟩ => ⟨S1x2048, .f32⟩
  | .hbm, ⟨42, _⟩ => ⟨S1x16, .f32⟩
  | .hbm, ⟨43, _⟩ => ⟨S8192x16, .f32⟩
  | .hbm, ⟨44, _⟩ => ⟨S16x2048x2048, .bf16⟩
  | .hbm, ⟨45, _⟩ => ⟨S16x2048x16, .bf16⟩
  | .hbm, ⟨46, _⟩ => ⟨S16x1x2048, .f32⟩
  | .hbm, ⟨47, _⟩ => ⟨S16x1x16, .f32⟩
  | .hbm, ⟨48, _⟩ => ⟨S16x8192x16, .f32⟩
  | .hbm, ⟨49, _⟩ => ⟨S1x16, .f32⟩
  | .hbm, ⟨50, _⟩ => ⟨S8192x16, .f32⟩
  | .hbm, ⟨51, _⟩ => ⟨S65536x2, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S4096x2048, .f32⟩
  | .local _ .vmem, ⟨7, _⟩ => ⟨S1x2048, .f32⟩
  | .local _ .vmem, ⟨8, _⟩ => ⟨S2048x16, .f32⟩
  | .local _ .vmem, ⟨9, _⟩ => ⟨S256x2048, .bf16⟩
  | .local _ .vmem, ⟨10, _⟩ => ⟨S256x2048, .bf16⟩
  | .local _ .vmem, ⟨11, _⟩ => ⟨S256x16, .f32⟩
  | .local _ .vmem, ⟨12, _⟩ => ⟨S256x16, .f32⟩
  | .local _ .vmem, ⟨13, _⟩ => ⟨S256x2048, .bf16⟩
  | .local _ .vmem, ⟨14, _⟩ => ⟨S256x2048, .bf16⟩
  | .local _ .vmem, ⟨15, _⟩ => ⟨S2048x2048, .bf16⟩
  | .local _ .vmem, ⟨16, _⟩ => ⟨S1x2048, .f32⟩
  | .local _ .vmem, ⟨17, _⟩ => ⟨S2048x16, .bf16⟩
  | .local _ .vmem, ⟨18, _⟩ => ⟨S1x16, .f32⟩
  | .local _ .vmem, ⟨19, _⟩ => ⟨S256x16, .f32⟩
  | .local _ .vmem, ⟨20, _⟩ => ⟨S256x16, .f32⟩
  | .local _ .vmem, ⟨21, _⟩ => ⟨S8192x2048, .bf16⟩
  | .local _ .vmem, ⟨22, _⟩ => ⟨S1x2048x2048, .bf16⟩
  | .local _ .vmem, ⟨23, _⟩ => ⟨S1x2048x2048, .bf16⟩
  | .local _ .vmem, ⟨24, _⟩ => ⟨S1x1x2048, .f32⟩
  | .local _ .vmem, ⟨25, _⟩ => ⟨S1x1x2048, .f32⟩
  | .local _ .vmem, ⟨26, _⟩ => ⟨S1x2048x16, .bf16⟩
  | .local _ .vmem, ⟨27, _⟩ => ⟨S1x2048x16, .bf16⟩
  | .local _ .vmem, ⟨28, _⟩ => ⟨S1x1x16, .f32⟩
  | .local _ .vmem, ⟨29, _⟩ => ⟨S1x1x16, .f32⟩
  | .local _ .vmem, ⟨30, _⟩ => ⟨S1x512x16, .f32⟩
  | .local _ .vmem, ⟨31, _⟩ => ⟨S1x512x16, .f32⟩
  | .local _ .vmem, ⟨32, _⟩ => ⟨S16x512x16, .f32⟩
  | .local _ .vmem, ⟨33, _⟩ => ⟨S16x512x16, .f32⟩
  | .local _ .vmem, ⟨34, _⟩ => ⟨S512x16, .f32⟩
  | .local _ .vmem, ⟨35, _⟩ => ⟨S512x16, .f32⟩
  | .local _ .vmem, ⟨36, _⟩ => ⟨S512x16, .f32⟩
  | .local _ .vmem, ⟨37, _⟩ => ⟨S512x16, .f32⟩
  | .local _ .vmem, ⟨38, _⟩ => ⟨S32x16, .f32⟩
  | .local _ .vmem, ⟨39, _⟩ => ⟨S1x16, .f32⟩
  | .local _ .vmem, ⟨40, _⟩ => ⟨S512x16, .f32⟩
  | .local _ .vmem, ⟨41, _⟩ => ⟨S512x16, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v0 : Ref sig .tc := ⟨.hbm, 21, rfl⟩
abbrev main_cst : Ref sig .tc := ⟨.hbm, 22, rfl⟩
abbrev main_call1_v0 : Ref sig .tc := ⟨.hbm, 23, rfl⟩
abbrev main_call1_v1 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst_0 : Ref sig .tc := ⟨.hbm, 28, rfl⟩
abbrev main_v4 : Ref sig .tc := ⟨.hbm, 29, rfl⟩
abbrev main_cst_1 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11_0 : Ref sig .tc := ⟨.hbm, 37, rfl⟩
abbrev main_v11_1 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem4_0 : DmaSem sig := 39
abbrev cc3_sem5_0 : DmaSem sig := 40
abbrev cc3_sem5_1 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x16 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![16, 16], ![false, false]⟩

def k2_off1 (i : grid2.Coords) : Fin 2 → Nat :=
  let arg1 : BitVec 32 := BitVec.ofNat 32 (i 1).val
  let c512_i32 : BitVec 32 := 512#32
  let v0 : BitVec 32 := Scalar.muli arg1 c512_i32
  let v1 : Index := Scalar.indexCast v0
  let c0 : Index := 0#32
  ![v1.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 1 → Memref sig .tc .vmem S8192x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1x2048x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x2048x16 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x512x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S16x512x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S32x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x16 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== KernelIdeal.lean ====
variable {F : FTy → Type} [FloatOps F] [Named F]
def κ : String → Option EReal := fun
  | "inv_temp" => some ((134217728 / 13421773 : ℝ) : EReal)
  | _ => none
-- ==== ReferenceIdeal.lean ====
abbrev S8192x2048 : Shape := ⟨2, ![8192, 2048]⟩
abbrev S2048 : Shape := ⟨1, ![2048]⟩
abbrev S16x4x2048 : Shape := ⟨3, ![16, 4, 2048]⟩
abbrev S4096x2048 : Shape := ⟨2, ![4096, 2048]⟩
abbrev S16x2048x2048 : Shape := ⟨3, ![16, 2048, 2048]⟩
abbrev S16x2048 : Shape := ⟨2, ![16, 2048]⟩
abbrev S16x2048x16 : Shape := ⟨3, ![16, 2048, 16]⟩
abbrev S16x16 : Shape := ⟨2, ![16, 16]⟩
abbrev S2048x2048 : Shape := ⟨2, ![2048, 2048]⟩
abbrev S2048x16 : Shape := ⟨2, ![2048, 16]⟩
abbrev S16 : Shape := ⟨1, ![16]⟩
abbrev S32x16 : Shape := ⟨2, ![32, 16]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x4096 : Shape := ⟨2, ![8192, 4096]⟩
abbrev S16x4 : Shape := ⟨2, ![16, 4]⟩
abbrev S16x4x1 : Shape := ⟨3, ![16, 4, 1]⟩
abbrev S64x2048 : Shape := ⟨2, ![64, 2048]⟩
abbrev S2048x64 : Shape := ⟨2, ![2048, 64]⟩
abbrev S8192x64 : Shape := ⟨2, ![8192, 64]⟩
abbrev S8192x16x4 : Shape := ⟨3, ![8192, 16, 4]⟩
abbrev S8192x16 : Shape := ⟨2, ![8192, 16]⟩
abbrev S8192x2 : Shape := ⟨2, ![8192, 2]⟩
abbrev S16x2048x8192 : Shape := ⟨3, ![16, 2048, 8192]⟩
abbrev S16x8192x2048 : Shape := ⟨3, ![16, 8192, 2048]⟩
abbrev S16x1x2048 : Shape := ⟨3, ![16, 1, 2048]⟩
abbrev S16x8192x16 : Shape := ⟨3, ![16, 8192, 16]⟩
abbrev S16x1x16 : Shape := ⟨3, ![16, 1, 16]⟩
abbrev S1x16 : Shape := ⟨2, ![1, 16]⟩
abbrev S8192x32 : Shape := ⟨2, ![8192, 32]⟩
abbrev S65536x2 : Shape := ⟨2, ![65536, 2]⟩

abbrev nBuf : Space → Nat
  | .hbm => 212
  | .vmem => 0
  | .smem => 0
  | _ => 0

abbrev hbmTy0_0 (i : Nat) : BufTy := match i % 128 with
  | 0 => ⟨S8192x2048, .f32⟩
  | 1 => ⟨S8192x2048, .f32⟩
  | 2 => ⟨S2048, .f32⟩
  | 3 => ⟨S2048, .f32⟩
  | 4 => ⟨S16x4x2048, .f32⟩
  | 5 => ⟨S4096x2048, .f32⟩
  | 6 => ⟨S2048, .f32⟩
  | 7 => ⟨S16x2048x2048, .f32⟩
  | 8 => ⟨S16x2048, .f32⟩
  | 9 => ⟨S16x2048x16, .f32⟩
  | 10 => ⟨S16x16, .f32⟩
  | 11 => ⟨S2048x2048, .f32⟩
  | 12 => ⟨S2048, .f32⟩
  | 13 => ⟨S2048x16, .f32⟩
  | 14 => ⟨S16, .f32⟩
  | 15 => ⟨S32x16, .f32⟩
  | 16 => ⟨S16, .f32⟩
  | 17 => ⟨S_, .f32⟩
  | 18 => ⟨S8192, .f32⟩
  | 19 => ⟨S8192x1, .f32⟩
  | 20 => ⟨S_, .f32⟩
  | 21 => ⟨S8192x1, .f32⟩
  | 22 => ⟨S8192x1, .f32⟩
  | 23 => ⟨S_, .i32⟩
  | 24 => ⟨S_, .f32⟩
  | 25 => ⟨S8192, .f32⟩
  | 26 => ⟨S8192x1, .f32⟩
  | 27 => ⟨S_, .f32⟩
  | 28 => ⟨S8192x1, .f32⟩
  | 29 => ⟨S8192x1, .f32⟩
  | 30 => ⟨S8192x2048, .f32⟩
  | 31 => ⟨S8192x2048, .f32⟩
  | 32 => ⟨S8192x2048, .f32⟩
  | 33 => ⟨S_, .f32⟩
  | 34 => ⟨S_, .f32⟩
  | 35 => ⟨S_, .f32⟩
  | 36 => ⟨S_, .f32⟩
  | 37 => ⟨S8192, .f32⟩
  | 38 => ⟨S8192x1, .f32⟩
  | 39 => ⟨S8192x1, .f32⟩
  | 40 => ⟨S8192x1, .f32⟩
  | 41 => ⟨S_, .f32⟩
  | 42 => ⟨S_, .i1⟩
  | 43 => ⟨S_, .f32⟩
  | 44 => ⟨S_, .f32⟩
  | 45 => ⟨S8192x1, .f32⟩
  | 46 => ⟨S8192x1, .f32⟩
  | 47 => ⟨S8192x2048, .f32⟩
  | 48 => ⟨S8192x2048, .f32⟩
  | 49 => ⟨S_, .f32⟩
  | 50 => ⟨S8192x1, .f32⟩
  | 51 => ⟨S8192x1, .f32⟩
  | 52 => ⟨S8192x1, .f32⟩
  | 53 => ⟨S8192x2048, .f32⟩
  | 54 => ⟨S8192x2048, .f32⟩
  | 55 => ⟨S1x2048, .f32⟩
  | 56 => ⟨S8192x2048, .f32⟩
  | 57 => ⟨S8192x2048, .f32⟩
  | 58 => ⟨S1x2048, .f32⟩
  | 59 => ⟨S8192x2048, .f32⟩
  | 60 => ⟨S8192x2048, .f32⟩
  | 61 => ⟨S8192x4096, .f32⟩
  | 62 => ⟨S8192x2048, .f32⟩
  | 63 => ⟨S1x2048, .f32⟩
  | 64 => ⟨S8192x2048, .f32⟩
  | 65 => ⟨S8192x2048, .f32⟩
  | 66 => ⟨S8192x2048, .f32⟩
  | 67 => ⟨S_, .f32⟩
  | 68 => ⟨S8192, .f32⟩
  | 69 => ⟨S8192x1, .f32⟩
  | 70 => ⟨S8192x1, .f32⟩
  | 71 => ⟨S_, .f32⟩
  | 72 => ⟨S_, .f32⟩
  | 73 => ⟨S8192x1, .f32⟩
  | 74 => ⟨S8192x1, .f32⟩
  | 75 => ⟨S8192x2048, .f32⟩
  | 76 => ⟨S8192x2048, .f32⟩
  | 77 => ⟨S16x4x2048, .f32⟩
  | 78 => ⟨S_, .f32⟩
  | 79 => ⟨S16x4, .f32⟩
  | 80 => ⟨S16x4x1, .f32⟩
  | 81 => ⟨S16x4x1, .f32⟩
  | 82 => ⟨S_, .f32⟩
  | 83 => ⟨S_, .f32⟩
  | 84 => ⟨S16x4x1, .f32⟩
  | 85 => ⟨S16x4x1, .f32⟩
  | 86 => ⟨S16x4x2048, .f32⟩
  | 87 => ⟨S16x4x2048, .f32⟩
  | 88 => ⟨S64x2048, .f32⟩
  | 89 => ⟨S2048x64, .f32⟩
  | 90 => ⟨S8192x64, .f32⟩
  | 91 => ⟨S8192x16x4, .f32⟩
  | 92 => ⟨S_, .f32⟩
  | 93 => ⟨S8192x16, .f32⟩
  | 94 => ⟨S_, .f32⟩
  | 95 => ⟨S8192x16, .f32⟩
  | 96 => ⟨S8192x16, .f32⟩
  | 97 => ⟨S_, .f32⟩
  | 98 => ⟨S8192x16, .f32⟩
  | 99 => ⟨S8192x16, .f32⟩
  | 100 => ⟨S_, .f32⟩
  | 101 => ⟨S8192, .f32⟩
  | 102 => ⟨S_, .f32⟩
  | 103 => ⟨S8192, .f32⟩
  | 104 => ⟨S8192, .f32⟩
  | 105 => ⟨S8192x1, .f32⟩
  | 106 => ⟨S8192x16, .f32⟩
  | 107 => ⟨S8192x16, .f32⟩
  | 108 => ⟨S8192x16, .f32⟩
  | 109 => ⟨S_, .f32⟩
  | 110 => ⟨S8192, .f32⟩
  | 111 => ⟨S8192x1, .f32⟩
  | 112 => ⟨S8192x16, .f32⟩
  | 113 => ⟨S8192x16, .f32⟩
  | 114 => ⟨S8192x2, .f32⟩
  | 115 => ⟨S8192x2, .i32⟩
  | 116 => ⟨S_, .f32⟩
  | 117 => ⟨S8192, .f32⟩
  | 118 => ⟨S8192x1, .f32⟩
  | 119 => ⟨S_, .f32⟩
  | 120 => ⟨S8192x1, .f32⟩
  | 121 => ⟨S8192x1, .f32⟩
  | 122 => ⟨S8192x2, .f32⟩
  | 123 => ⟨S8192x2, .f32⟩
  | 124 => ⟨S16x2048x8192, .f32⟩
  | 125 => ⟨S16x8192x2048, .f32⟩
  | 126 => ⟨S16x1x2048, .f32⟩
  | 127 => ⟨S16x8192x2048, .f32⟩
  | _ => ⟨S8192x2048, .f32⟩

abbrev hbmTy0_1 (i : Nat) : BufTy := match i % 128 with
  | 0 => ⟨S16x8192x2048, .f32⟩
  | 1 => ⟨S_, .f32⟩
  | 2 => ⟨S16x8192x2048, .f32⟩
  | 3 => ⟨S16x8192x2048, .f32⟩
  | 4 => ⟨S16x8192x16, .f32⟩
  | 5 => ⟨S16x1x16, .f32⟩
  | 6 => ⟨S16x8192x16, .f32⟩
  | 7 => ⟨S16x8192x16, .f32⟩
  | 8 => ⟨S_, .f32⟩
  | 9 => ⟨S8192x16, .f32⟩
  | 10 => ⟨S8192, .i32⟩
  | 11 => ⟨S8192x1, .i32⟩
  | 12 => ⟨S8192, .i32⟩
  | 13 => ⟨S_, .i32⟩
  | 14 => ⟨S8192, .i32⟩
  | 15 => ⟨S8192, .i1⟩
  | 16 => ⟨S_, .i32⟩
  | 17 => ⟨S8192, .i32⟩
  | 18 => ⟨S8192, .i32⟩
  | 19 => ⟨S8192, .i32⟩
  | 20 => ⟨S_, .i32⟩
  | 21 => ⟨S8192, .i32⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S8192x1, .i32⟩
  | 29 => ⟨S8192x2, .i32⟩
  | 30 => ⟨S8192x16, .f32⟩
  | 31 => ⟨S8192x1, .f32⟩
  | 32 => ⟨S8192x16, .f32⟩
  | 33 => ⟨S8192x16, .f32⟩
  | 34 => ⟨S8192x16, .f32⟩
  | 35 => ⟨S8192x1, .i32⟩
  | 36 => ⟨S8192, .i32⟩
  | 37 => ⟨S_, .i32⟩
  | 38 => ⟨S8192, .i32⟩
  | 39 => ⟨S8192, .i1⟩
  | 40 => ⟨S_, .i32⟩
  | 41 => ⟨S8192, .i32⟩
  | 42 => ⟨S8192, .i32⟩
  | 43 => ⟨S8192, .i32⟩
  | 44 => ⟨S_, .i32⟩
  | 45 => ⟨S8192, .i32⟩
  | 46 => ⟨S8192, .i1⟩
  | 47 => ⟨S_, .i32⟩
  | 48 => ⟨S8192, .i32⟩
  | 49 => ⟨S8192, .i32⟩
  | 50 => ⟨S8192, .i32⟩
  | 51 => ⟨S8192x1, .i32⟩
  | 52 => ⟨S8192x1, .i32⟩
  | 53 => ⟨S8192x2, .i32⟩
  | 54 => ⟨S8192x16, .f32⟩
  | 55 => ⟨S8192x1, .f32⟩
  | 56 => ⟨S8192x16, .f32⟩
  | 57 => ⟨S8192x16, .f32⟩
  | 58 => ⟨S8192x16, .f32⟩
  | 59 => ⟨S8192x2048, .f32⟩
  | 60 => ⟨S1x2048, .f32⟩
  | 61 => ⟨S8192x2048, .f32⟩
  | 62 => ⟨S8192x2048, .f32⟩
  | 63 => ⟨S_, .f32⟩
  | 64 => ⟨S8192x2048, .f32⟩
  | 65 => ⟨S8192x2048, .f32⟩
  | 66 => ⟨S8192x16, .f32⟩
  | 67 => ⟨S1x16, .f32⟩
  | 68 => ⟨S8192x16, .f32⟩
  | 69 => ⟨S8192x16, .f32⟩
  | 70 => ⟨S8192x32, .f32⟩
  | 71 => ⟨S8192x16, .f32⟩
  | 72 => ⟨S1x16, .f32⟩
  | 73 => ⟨S8192x16, .f32⟩
  | 74 => ⟨S8192x16, .f32⟩
  | 75 => ⟨S8192x16, .f32⟩
  | 76 => ⟨S8192x16, .f32⟩
  | 77 => ⟨S_, .f32⟩
  | 78 => ⟨S8192x16, .f32⟩
  | 79 => ⟨S8192x16, .f32⟩
  | 80 => ⟨S_, .f32⟩
  | 81 => ⟨S8192x16, .f32⟩
  | 82 => ⟨S8192x16, .f32⟩
  | 83 => ⟨S65536x2, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_cst_3 : Ref sig .tc := ⟨.hbm, 41, rfl⟩
abbrev main_call0_v13 : Ref sig .tc := ⟨.hbm, 42, rfl⟩
abbrev main_call0_cst_4 : Ref sig .tc := ⟨.hbm, 43, rfl⟩
abbrev main_call0_call0_v0 : Ref sig .tc := ⟨.hbm, 44, rfl⟩
abbrev main_call0_call0_v1 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_cst_1 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_call1_v0 : Ref sig .tc := ⟨.hbm, 66, rfl⟩
abbrev main_call1_cst : Ref sig .tc := ⟨.hbm, 67, rfl⟩
abbrev main_call1_v1 : Ref sig .tc := ⟨.hbm, 68, rfl⟩
abbrev main_call1_v2 : Ref sig .tc := ⟨.hbm, 69, rfl⟩
abbrev main_v23 : Ref sig .tc := ⟨.hbm, 70, rfl⟩
abbrev main_cst_2 : Ref sig .tc := ⟨.hbm, 71, rfl⟩
abbrev main_call2_v0 : Ref sig .tc := ⟨.hbm, 72, rfl⟩
abbrev main_call2_v1 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_call3_v0 : Ref sig .tc := ⟨.hbm, 77, rfl⟩
abbrev main_call3_cst : Ref sig .tc := ⟨.hbm, 78, rfl⟩
abbrev main_call3_v1 : Ref sig .tc := ⟨.hbm, 79, rfl⟩
abbrev main_call3_v2 : Ref sig .tc := ⟨.hbm, 80, rfl⟩
abbrev main_v27 : Ref sig .tc := ⟨.hbm, 81, rfl⟩
abbrev main_cst_3 : Ref sig .tc := ⟨.hbm, 82, rfl⟩
abbrev main_call4_v0 : Ref sig .tc := ⟨.hbm, 83, rfl⟩
abbrev main_call4_v1 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_4 : Ref sig .tc := ⟨.hbm, 92, rfl⟩
abbrev main_v35 : Ref sig .tc := ⟨.hbm, 93, rfl⟩
abbrev main_cst_5 : Ref sig .tc := ⟨.hbm, 94, rfl⟩
abbrev main_v36 : Ref sig .tc := ⟨.hbm, 95, rfl⟩
abbrev main_v37 : Ref sig .tc := ⟨.hbm, 96, rfl⟩
abbrev main_cst_6 : Ref sig .tc := ⟨.hbm, 97, rfl⟩
abbrev main_v38 : Ref sig .tc := ⟨.hbm, 98, rfl⟩
abbrev main_v39 : Ref sig .tc := ⟨.hbm, 99, rfl⟩
abbrev main_cst_7 : Ref sig .tc := ⟨.hbm, 100, rfl⟩
abbrev main_v40 : Ref sig .tc := ⟨.hbm, 101, rfl⟩
abbrev main_cst_8 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_cst_9 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_values : Ref sig .tc := ⟨.hbm, 114, rfl⟩
abbrev main_indices : Ref sig .tc := ⟨.hbm, 115, rfl⟩
abbrev main_cst_10 : Ref sig .tc := ⟨.hbm, 116, rfl⟩
abbrev main_v51 : Ref sig .tc := ⟨.hbm, 117, rfl⟩
abbrev main_v52 : Ref sig .tc := ⟨.hbm, 118, rfl⟩
abbrev main_cst_11 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_call5_cst : Ref sig .tc := ⟨.hbm, 129, rfl⟩
abbrev main_call5_v0 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_cst_12 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_c_13 : Ref sig .tc := ⟨.hbm, 141, rfl⟩
abbrev main_v71 : Ref sig .tc := ⟨.hbm, 142, rfl⟩
abbrev main_v72 : Ref sig .tc := ⟨.hbm, 143, rfl⟩
abbrev main_c_14 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_c_15 : Ref sig .tc := ⟨.hbm, 148, rfl⟩
abbrev main_v76 : Ref sig .tc := ⟨.hbm, 149, rfl⟩
abbrev main_v77 : Ref sig .tc := ⟨.hbm, 150, rfl⟩
abbrev main_c_16 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_c_17 : Ref sig .tc := ⟨.hbm, 165, rfl⟩
abbrev main_v91 : Ref sig .tc := ⟨.hbm, 166, rfl⟩
abbrev main_v92 : Ref sig .tc := ⟨.hbm, 167, rfl⟩
abbrev main_c_18 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_c_19 : Ref sig .tc := ⟨.hbm, 172, rfl⟩
abbrev main_v96 : Ref sig .tc := ⟨.hbm, 173, rfl⟩
abbrev main_v97 : Ref sig .tc := ⟨.hbm, 174, rfl⟩
abbrev main_c_20 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_call6_cst : Ref sig .tc := ⟨.hbm, 191, rfl⟩
abbrev main_call6_v0 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_cst_21 : Ref sig .tc := ⟨.hbm, 205, rfl⟩
abbrev main_v125 : Ref sig .tc := ⟨.hbm, 206, rfl⟩
abbrev main_v126 : Ref sig .tc := ⟨.hbm, 207, rfl⟩
abbrev main_cst_22 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩

abbrev nD : Nat := 1
abbrev τ : Topo := Topo.v7x

variable {F : FTy → Type} [FloatOps F]
-- ==== Proof.Reals.lean ====
/-
  Facts about the extended reals that the value claim needs: the float constants of the two programs as numbers, a row divided by
  its guarded norm is made of real numbers, and a quotient by a square root is a product with the reciprocal square root.
-/
module

public import Idealize.ShloMosaic.Lib.Pointwise

@[expose] public section

noncomputable section

namespace Cert.Moe

open Idealize.ShloMosaic
open scoped BigOperators

/-! ## The constants -/

/-- The word of 2048.0. -/
theorem word_2048 : Ideal.ofBits .f32 0x45000000#32 = ((2048 : ℝ) : EReal) := by
  simp [Ideal.ofBits, Ideal.ieee, -EReal.coe_mul]; norm_num

/-- The word of 4.0. -/
theorem word_4 : Ideal.ofBits .f32 0x40800000#32 = ((4 : ℝ) : EReal) := by
  simp [Ideal.ofBits, Ideal.ieee, -EReal.coe_mul]; norm_num

/-- The word of 0.1: the fraction 13421773 / 2²⁷. -/
theorem word_temp : Ideal.ofBits .f32 0x3DCCCCCD#32 = ((13421773 / 134217728 : ℝ) : EReal) := by
  simp [Ideal.ofBits, Ideal.ieee, -EReal.coe_mul]; norm_num

/-- The word of -1.0. -/
theorem word_neg_one : Ideal.ofBits .f32 0xBF800000#32 = ((-1 : ℝ) : EReal) := by
  simp [Ideal.ofBits, Ideal.ieee, -EReal.coe_mul, -EReal.coe_neg]; norm_num

/-- The word of minus infinity. -/
theorem word_bot : Ideal.ofBits .f32 0xFF800000#32 = (⊥ : EReal) := by
  simp [Ideal.ofBits, Ideal.ieee]

/-- The word of the variance's guard is a positive real number. -/
theorem word_eps : ∃ r : ℝ, 0 < r ∧ Ideal.ofBits .f32 0x3727C5AC#32 = (r : EReal) := by
  refine ⟨10995116 * (2 : ℝ) ^ (-40 : ℤ), by positivity, ?_⟩
  simp [Ideal.ofBits, Ideal.ieee, -EReal.coe_mul]

/-- The word of the norm's guard is a positive real number. -/
theorem word_tiny : ∃ r : ℝ, 0 < r ∧ Ideal.ofBits .f32 0x2B8CBCCC#32 = (r : EReal) := by
  refine ⟨9223372 * (2 : ℝ) ^ (-63 : ℤ), by positivity, ?_⟩
  simp [Ideal.ofBits, Ideal.ieee, -EReal.coe_mul]

/-! ## Squares, square roots and quotients -/

/-- A square is not negative. -/
theorem sq_nonneg' (x : EReal) : 0 ≤ x * x := by
  induction x using EReal.rec with
  | bot => simp
  | top => simp
  | coe r => rw [← EReal.coe_mul]; exact_mod_cast mul_self_nonneg r

/-- A sum of squares is not negative. -/
theorem sum_sq_nonneg {n : ℕ} (x : Fin n → EReal) : 0 ≤ ∑ k, x k * x k :=
  Finset.sum_nonneg fun k _ => sq_nonneg' (x k)

/-- The quotient by a positive real of something not negative is not negative. -/
theorem div_nonneg' {x : EReal} {r : ℝ} (hr : 0 < r) (hx : 0 ≤ x) : 0 ≤ Ideal.div x (r : EReal) := by
  rw [Ideal.div_coe hr.ne']
  exact mul_nonneg hx (by exact_mod_cast (by positivity : (0 : ℝ) ≤ 1 / r))

/-- The square root of a real that is not negative. -/
theorem sqrt_real {r : ℝ} (hr : 0 ≤ r) : Ideal.sqrt (r : EReal) = (Real.sqrt r : EReal) := by
  rw [Ideal.sqrt_coe, if_neg (not_lt.mpr hr)]

/-- A quotient by the positive infinity is zero. -/
theorem div_top (x : EReal) : Ideal.div x ⊤ = 0 := by
  simp [Ideal.div]

/-- Dividing by the square root of a positive number is multiplying by its reciprocal square root. -/
theorem div_sqrt (x : EReal) {y : EReal} (hy : 0 < y) : Ideal.div x (Ideal.sqrt y) = x * Ideal.rsqrt y := by
  induction y using EReal.rec with
  | bot => simp at hy
  | top => rw [Ideal.sqrt_top, Ideal.rsqrt_top, div_top, mul_zero]
  | coe r =>
    have hr : 0 < r := by exact_mod_cast hy
    have hs : Real.sqrt r ≠ 0 := (Real.sqrt_pos.mpr hr).ne'
    rw [sqrt_real hr.le, Ideal.rsqrt_coe, if_neg (not_lt.mpr hr.le), if_neg hr.ne', Ideal.div_coe hs, one_div]

/-- A quotient of reals by a real that is not zero is real. -/
theorem div_real (a : ℝ) {b : ℝ} (hb : b ≠ 0) : Ideal.div (a : EReal) (b : EReal) = ((a / b : ℝ) : EReal) := by
  rw [Ideal.div_coe hb, ← EReal.coe_mul]; congr 1; ring

/-- A sum of reals is the real sum. -/
theorem sum_real {n : ℕ} (f : Fin n → ℝ) : ∑ k, ((f k : ℝ) : EReal) = ((∑ k, f k : ℝ) : EReal) := by
  induction (Finset.univ : Finset (Fin n)) using Finset.cons_induction with
  | empty => simp
  | cons a s ha ih => rw [Finset.sum_cons, Finset.sum_cons, EReal.coe_add, ih]

/-- **A row divided by its guarded norm consists of real numbers**, whatever the row holds: where an entry is infinite the
    norm is infinite and every quotient is zero. -/
theorem unit_real {n : ℕ} (x : Fin n → EReal) (t : EReal) (ht : ∃ r : ℝ, 0 < r ∧ t = (r : EReal)) (j : Fin n) :
    ∃ q : ℝ, Ideal.div (x j) (max (Ideal.sqrt (∑ k, x k * x k)) t) = (q : EReal) := by
  obtain ⟨r, hr, rfl⟩ := ht
  have h0 := sum_sq_nonneg x
  have hle : ∀ k, x k * x k ≤ ∑ k, x k * x k := fun k =>
    Finset.single_le_sum (f := fun k => x k * x k) (fun k _ => sq_nonneg' (x k)) (Finset.mem_univ k)
  generalize hs : (∑ k, x k * x k) = s at h0 hle
  induction s using EReal.rec with
  | bot => simp at h0
  | top => exact ⟨0, by rw [Ideal.sqrt_top, max_eq_left le_top, div_top]; rfl⟩
  | coe v =>
    have hv : 0 ≤ v := by exact_mod_cast h0
    have hx : ∃ a : ℝ, x j = (a : EReal) := by
      have h := hle j
      generalize x j = y at h
      induction y using EReal.rec with
      | bot => simp at h
      | top => simp at h
      | coe a => exact ⟨a, rfl⟩
    obtain ⟨a, ha⟩ := hx
    have hm : max (Real.sqrt v) r ≠ 0 := (lt_of_lt_of_le hr (le_max_right _ _)).ne'
    refine ⟨a / max (Real.sqrt v) r, ?_⟩
    rw [ha, sqrt_real hv, ← EReal.coe_strictMono.monotone.map_max, div_real a hm]

end Cert.Moe

end
-- ==== Proof.Spec.lean ====
/-
  The layer on one row, as plain functions of rows and matrices of extended reals: layer normalisation, the router's query, the
  similarity logits, the softmax, the two greatest probabilities, an expert, and the gate.
-/
module

public import proofs.«01_k».proof.Proof.Reals
public import Idealize.ShloMosaic.Lib.SortFacts

@[expose] public section

noncomputable section

namespace Cert.Moe

open Idealize.ShloMosaic
open scoped BigOperators

/-- The mean of a row of 2048 numbers. -/
def mean (x : Fin 2048 → EReal) : EReal := Ideal.div (∑ k, x k) (Ideal.ofBits .f32 0x45000000#32)

/-- The variance of a row of 2048 numbers, with the guard the programs add to it. -/
def spread (x : Fin 2048 → EReal) : EReal :=
  Ideal.div (∑ k, (x k - mean x) * (x k - mean x)) (Ideal.ofBits .f32 0x45000000#32) + Ideal.ofBits .f32 0x3727C5AC#32

/-- A row normalised to its mean and variance, scaled by `g` and shifted by `b`. -/
def normRow (x g b : Fin 2048 → EReal) (l : Fin 2048) : EReal := (x l - mean x) * Ideal.rsqrt (spread x) * g l + b l

/-- The router's query: the normalised row through the projection's upper half, the query row through its lower half, and the
    bias. -/
def queryRow (n q : Fin 2048 → EReal) (W : Fin 4096 → Fin 2048 → EReal) (b : Fin 2048 → EReal) (l : Fin 2048) : EReal :=
  ∑ k : Fin 2048, n k * W ⟨k, by omega⟩ l + ∑ k : Fin 2048, q k * W ⟨2048 + k, by omega⟩ l + b l

/-- A row divided by its guarded Euclidean norm. -/
def unit (v : Fin 2048 → EReal) (l : Fin 2048) : EReal :=
  Ideal.div (v l) (max (Ideal.sqrt (∑ k, v k * v k)) (Ideal.ofBits .f32 0x2B8CBCCC#32))

/-- An expert's pilot: the mean of its four unit vectors. -/
def pilotMean (m : Fin 4 → Fin 2048 → EReal) (l : Fin 2048) : EReal :=
  Ideal.div (∑ c, unit (m c) l) (Ideal.ofBits .f32 0x40800000#32)

/-- A logit: the similarity of the unit query and an expert's pilot, divided by the temperature 13421773 / 2²⁷. -/
def logit (v : Fin 2048 → EReal) (m : Fin 4 → Fin 2048 → EReal) : EReal :=
  (∑ k, unit v k * pilotMean m k) * ((134217728 / 13421773 : ℝ) : EReal)

/-- The softmax of sixteen logits. -/
def softmax (z : Fin 16 → EReal) (e : Fin 16) : EReal :=
  Ideal.div (Ideal.exp (z e - Finset.univ.fold max ⊥ z)) (∑ k, Ideal.exp (z k - Finset.univ.fold max ⊥ z))

/-- Where the `i`-th greatest of sixteen numbers stands, equal ones in the order of their positions. -/
def rank (p : Fin 16 → EReal) (i : Fin 16) : Fin 16 := sortedFrom (fun k k' => decide (p k' < p k)) i

/-- The share of a number among the two greatest. -/
def share (p : Fin 16 → EReal) (i : Fin 16) : EReal :=
  Ideal.div (p i) (p (rank p 0) + p (rank p 1) + Ideal.ofBits .f32 0x358637BD#32)

/-- The two chosen experts' outputs, each by its share. -/
def routed (p : Fin 16 → EReal) (o : Fin 16 → EReal) : EReal :=
  share p (rank p 0) * o (rank p 0) + share p (rank p 1) * o (rank p 1)

/-- A two-layer network with a rectifier between the layers: one of its sixteen outputs. -/
def mlp (n : Fin 2048 → EReal) (W1 : Fin 2048 → Fin 2048 → EReal) (b1 : Fin 2048 → EReal) (W2 : Fin 2048 → Fin 16 → EReal)
    (b2 : Fin 16 → EReal) (l : Fin 16) : EReal :=
  ∑ k, max (∑ j, n j * W1 j k + b1 k) 0 * W2 k l + b2 l

/-- The gate: the routed outputs through the gate's upper half, the shared outputs through its lower half, the bias, and the
    logistic function. -/
def gate (r s : Fin 16 → EReal) (G : Fin 32 → Fin 16 → EReal) (b : Fin 16 → EReal) (l : Fin 16) : EReal :=
  Ideal.logistic (∑ k : Fin 16, r k * G ⟨k, by omega⟩ l + ∑ k : Fin 16, s k * G ⟨16 + k, by omega⟩ l + b l)

/-- Sixteen experts' probabilities for a normalised row and a query row. -/
def probs (n q : Fin 2048 → EReal) (pilot : Fin 16 → Fin 4 → Fin 2048 → EReal) (W : Fin 4096 → Fin 2048 → EReal)
    (b : Fin 2048 → EReal) : Fin 16 → EReal :=
  softmax fun e => logit (queryRow n q W b) (pilot e)

end Cert.Moe

end
-- ==== Proof.HostSteps.lean ====
/-
  What the host's operations between the launches leave, at an index.
-/
module

public import proofs.«01_k».proof.Proof.Gen.KernelIdeal.Launch
public import proofs.«01_k».proof.Proof.Spec
public import Idealize.ShloMosaic.Lib.StableHlo.ReadAt

@[expose] public section

set_option maxRecDepth 16384

noncomputable section

namespace Cert.Moe

open Idealize.ShloMosaic Idealize.ShloMosaic.TcCoe Cert.KernelIdeal Cert.KernelIdeal.Gen

variable (U : Valuation τ sig (Elt Ideal))

section Pilots
variable (A : Fin 16 → Fin 4 → Fin 2048 → EReal)
  (hA : ∀ (e : Fin 16) (j : Fin 4) (k : Fin 2048), U (Proc.devRef .tc main_arg4) (ix3 e j k) = A e j k)
include hA

/-- The Euclidean norms of the pilots' rows. -/
theorem host0_v0 (e : Fin 16) (j : Fin 4) :
    StableHlo.after (hostOps0 (F := Ideal)) U (Proc.devRef .tc main_v0) (ix3 e j 0) = Ideal.sqrt (∑ k, A e j k * A e j k) := by
  after_reads_at
  simp only [hA]

/-- The pilots' means, the guarded norms being `M`. -/
theorem host0_v7 (M : Fin 16 → Fin 4 → EReal) (hM : ∀ (e : Fin 16) (j : Fin 4), U (Proc.devRef .tc main_v1) (ix3 e j 0) = M e j)
    (k : Fin 2048) (e : Fin 16) :
    StableHlo.after (hostOps0_3 (F := Ideal)) U (Proc.devRef .tc main_v7) (ix2 k e)
      = Ideal.div (∑ j, Ideal.div (A e j k) (M e j)) (Ideal.ofBits .f32 0x40800000#32) := by
  after_reads_at
  simp only [hA, hM]

end Pilots

/-- The norms' guard. -/
theorem host0_cst : StableHlo.after (hostOps0_1 (F := Ideal)) U (Proc.devRef .tc main_cst) ix0 = Ideal.ofBits .f32 0x2B8CBCCC#32 := by
  after_reads_at

/-- The norms under their guard. -/
theorem host0_v1 (x : EReal) (hx : U (Proc.devRef .tc main_cst) ix0 = x) (N : Fin 16 → Fin 4 → EReal)
    (hN : ∀ (e : Fin 16) (j : Fin 4), U (Proc.devRef .tc main_v0) (ix3 e j 0) = N e j) (e : Fin 16) (j : Fin 4) :
    StableHlo.after (hostOps0_2 (F := Ideal)) U (Proc.devRef .tc main_v1) (ix3 e j 0) = max x (N e j) := by
  after_reads_at
  rw [hN, ← hx]
  rfl

/-- The normalisation's scale as one row. -/
theorem host0_v8 (k : Fin 2048) :
    StableHlo.after (hostOps0_3 (F := Ideal)) U (Proc.devRef .tc main_v8) (ix2 0 k) = U (Proc.devRef .tc main_arg2) (ix1 k) := by
  after_reads_at

/-- The normalisation's shift as one row. -/
theorem host0_v9 (k : Fin 2048) :
    StableHlo.after (hostOps0_3 (F := Ideal)) U (Proc.devRef .tc main_v9) (ix2 0 k) = U (Proc.devRef .tc main_arg3) (ix1 k) := by
  after_reads_at

/-- The projection's bias as one row. -/
theorem host0_v10 (k : Fin 2048) :
    StableHlo.after (hostOps0_3 (F := Ideal)) U (Proc.devRef .tc main_v10) (ix2 0 k) = U (Proc.devRef .tc main_arg6) (ix1 k) := by
  after_reads_at

/-- The shared network's first matrix, whose narrowing changes no number. -/
theorem host1_v12 (j k : Fin 2048) :
    StableHlo.after (hostOps1 (F := Ideal)) U (Proc.devRef .tc main_v12) (ix2 j k) = U (Proc.devRef .tc main_arg11) (ix2 j k) := by
  after_reads_at

/-- Its second matrix. -/
theorem host1_v13 (k : Fin 2048) (l : Fin 16) :
    StableHlo.after (hostOps1 (F := Ideal)) U (Proc.devRef .tc main_v13) (ix2 k l) = U (Proc.devRef .tc main_arg13) (ix2 k l) := by
  after_reads_at

/-- Its first bias as one row. -/
theorem host1_v14 (k : Fin 2048) :
    StableHlo.after (hostOps1 (F := Ideal)) U (Proc.devRef .tc main_v14) (ix2 0 k) = U (Proc.devRef .tc main_arg12) (ix1 k) := by
  after_reads_at

/-- Its second bias as one row. -/
theorem host1_v15 (l : Fin 16) :
    StableHlo.after (hostOps1 (F := Ideal)) U (Proc.devRef .tc main_v15) (ix2 0 l) = U (Proc.devRef .tc main_arg14) (ix1 l) := by
  after_reads_at

/-- The experts' first matrices, whose narrowing changes no number. -/
theorem host2_v17 (e : Fin 16) (j k : Fin 2048) :
    StableHlo.after (hostOps2 (F := Ideal)) U (Proc.devRef .tc main_v17) (ix3 e j k) = U (Proc.devRef .tc main_arg7) (ix3 e j k) := by
  after_reads_at

/-- Their second matrices. -/
theorem host2_v18 (e : Fin 16) (k : Fin 2048) (l : Fin 16) :
    StableHlo.after (hostOps2 (F := Ideal)) U (Proc.devRef .tc main_v18) (ix3 e k l) = U (Proc.devRef .tc main_arg9) (ix3 e k l) := by
  after_reads_at

/-- Their first biases, each as one row. -/
theorem host2_v19 (e : Fin 16) (k : Fin 2048) :
    StableHlo.after (hostOps2 (F := Ideal)) U (Proc.devRef .tc main_v19) (ix3 e 0 k) = U (Proc.devRef .tc main_arg8) (ix2 e k) := by
  after_reads_at

/-- Their second biases, each as one row. -/
theorem host2_v20 (e l : Fin 16) :
    StableHlo.after (hostOps2 (F := Ideal)) U (Proc.devRef .tc main_v20) (ix3 e 0 l) = U (Proc.devRef .tc main_arg10) (ix2 e l) := by
  after_reads_at

/-- The gate's bias as one row. -/
theorem host3_v22 (l : Fin 16) :
    StableHlo.after (hostOps3 (F := Ideal)) U (Proc.devRef .tc main_v22) (ix2 0 l) = U (Proc.devRef .tc main_arg16) (ix1 l) := by
  after_reads_at

end Cert.Moe

end
-- ==== Proof.Layer.lean ====
/-
  The whole layer as a function of its seventeen arguments.
-/
module

public import proofs.«01_k».proof.Proof.Spec

@[expose] public section

noncomputable section

namespace Cert.Moe

open Idealize.ShloMosaic

/-- The layer's arguments, as functions of plain indices. -/
structure Args where
  /-- The rows. -/
  x : Fin 8192 → Fin 2048 → EReal
  /-- The query rows. -/
  q : Fin 8192 → Fin 2048 → EReal
  /-- The normalisation's scale. -/
  g : Fin 2048 → EReal
  /-- The normalisation's shift. -/
  b : Fin 2048 → EReal
  /-- The pilots. -/
  pilot : Fin 16 → Fin 4 → Fin 2048 → EReal
  /-- The query projection's matrix. -/
  W : Fin 4096 → Fin 2048 → EReal
  /-- The query projection's bias. -/
  d : Fin 2048 → EReal
  /-- The experts' first matrices. -/
  W1 : Fin 16 → Fin 2048 → Fin 2048 → EReal
  /-- The experts' first biases. -/
  b1 : Fin 16 → Fin 2048 → EReal
  /-- The experts' second matrices. -/
  W2 : Fin 16 → Fin 2048 → Fin 16 → EReal
  /-- The experts' second biases. -/
  b2 : Fin 16 → Fin 16 → EReal
  /-- The shared network's first matrix. -/
  S1 : Fin 2048 → Fin 2048 → EReal
  /-- The shared network's first bias. -/
  c1 : Fin 2048 → EReal
  /-- The shared network's second matrix. -/
  S2 : Fin 2048 → Fin 16 → EReal
  /-- The shared network's second bias. -/
  c2 : Fin 16 → EReal
  /-- The gate's matrix. -/
  G : Fin 32 → Fin 16 → EReal
  /-- The gate's bias. -/
  h : Fin 16 → EReal

variable (A : Args)

/-- A normalised row. -/
def Args.norm (i : Fin 8192) : Fin 2048 → EReal := normRow (A.x i) A.g A.b

/-- A row's query. -/
def Args.query (i : Fin 8192) : Fin 2048 → EReal := queryRow (A.norm i) (A.q i) A.W A.d

/-- A row's probabilities of the experts. -/
def Args.prob (i : Fin 8192) : Fin 16 → EReal := probs (A.norm i) (A.q i) A.pilot A.W A.d

/-- An expert's outputs on a row. -/
def Args.expert (e : Fin 16) (i : Fin 8192) : Fin 16 → EReal := mlp (A.norm i) (A.W1 e) (A.b1 e) (A.W2 e) (A.b2 e)

/-- The chosen experts' outputs on a row, by their shares. -/
def Args.mixed (i : Fin 8192) (l : Fin 16) : EReal := routed (A.prob i) fun e => A.expert e i l

/-- The shared network's outputs on a row. -/
def Args.shared (i : Fin 8192) : Fin 16 → EReal := mlp (A.norm i) A.S1 A.c1 A.S2 A.c2

/-- The layer's outputs on a row. -/
def Args.result (i : Fin 8192) : Fin 16 → EReal := gate (A.mixed i) (A.shared i) A.G A.h

/-- A normalised row depends on its row, scale and shift at their indices. -/
theorem normRow_congr {x x' g g' b b' : Fin 2048 → EReal} (hx : ∀ k, x k = x' k) (hg : ∀ k, g k = g' k) (hb : ∀ k, b k = b' k) :
    normRow x g b = normRow x' g' b' := by
  rw [funext hx, funext hg, funext hb]

/-- The probabilities depend on their five arguments at their indices. -/
theorem probs_congr {n n' q q' d d' : Fin 2048 → EReal} {P P' : Fin 16 → Fin 4 → Fin 2048 → EReal} {W W' : Fin 4096 → Fin 2048 → EReal}
    (hn : ∀ k, n k = n' k) (hq : ∀ k, q k = q' k) (hP : ∀ e j k, P e j k = P' e j k) (hW : ∀ k l, W k l = W' k l)
    (hd : ∀ k, d k = d' k) : probs n q P W d = probs n' q' P' W' d' := by
  rw [funext hn, funext hq, funext fun e => funext fun j => funext (hP e j), funext fun k => funext (hW k), funext hd]

/-- A network's outputs depend on its five arguments at their indices. -/
theorem mlp_congr {n n' b b' : Fin 2048 → EReal} {U U' : Fin 2048 → Fin 2048 → EReal} {R R' : Fin 2048 → Fin 16 → EReal}
    {d d' : Fin 16 → EReal} (hn : ∀ k, n k = n' k) (hU : ∀ j k, U j k = U' j k) (hb : ∀ k, b k = b' k) (hR : ∀ k l, R k l = R' k l)
    (hd : ∀ l, d l = d' l) (l : Fin 16) : mlp n U b R d l = mlp n' U' b' R' d' l := by
  rw [funext hn, funext fun j => funext (hU j), funext hb, funext fun k => funext (hR k), funext hd]

/-- The gate's outputs depend on its four arguments at their indices. -/
theorem gate_congr {r r' s s' d d' : Fin 16 → EReal} {G G' : Fin 32 → Fin 16 → EReal} (hr : ∀ k, r k = r' k) (hs : ∀ k, s k = s' k)
    (hG : ∀ k l, G k l = G' k l) (hd : ∀ l, d l = d' l) (l : Fin 16) : gate r s G d l = gate r' s' G' d' l := by
  rw [funext hr, funext hs, funext fun k => funext (hG k), funext hd]

end Cert.Moe

end
-- ==== Proof.TopTwo.lean ====
/-
  The two greatest of sixteen numbers: where a stable descending sort leaves them, and that taking the greatest, its first
  position, overwriting it with a smaller number and repeating finds the same two positions.
-/
module

public import proofs.«01_k».proof.Proof.Spec
public import Idealize.ShloMosaic.Lib.PlanTiles.StableSort

@[expose] public section

noncomputable section

namespace Cert.Moe

open Idealize.ShloMosaic
open scoped BigOperators

variable (p : Fin 16 → EReal)

/-- How many of the numbers are smaller than the one at `k`. -/
def below (k : Fin 16) : ℕ := (Finset.univ.filter fun j => p j < p k).card

/-- Comparing two of the numbers is comparing how many lie below them. -/
theorem below_lt_iff (a b : Fin 16) : below p a < below p b ↔ p a < p b := by
  have mono : ∀ x y : Fin 16, p x ≤ p y → below p x ≤ below p y := fun x y h =>
    Finset.card_le_card fun j hj => by
      simp only [Finset.mem_filter, Finset.mem_univ, true_and] at hj ⊢; exact lt_of_lt_of_le hj h
  refine ⟨fun h => not_le.mp fun hle => absurd (mono b a hle) (not_le.mpr h), fun h => ?_⟩
  refine Finset.card_lt_card ⟨fun j hj => ?_, fun hs => ?_⟩
  · simp only [Finset.mem_filter, Finset.mem_univ, true_and] at hj ⊢; exact hj.trans h
  · have := hs (by simpa using h : a ∈ Finset.univ.filter fun j => p j < p b)
    simp at this

/-- A stable sort by descending `G` puts a greater key, or an equal one at a lower position, first. -/
theorem sortedFrom_lex {n : ℕ} (G : Fin n → ℕ) {i j : Fin n} (h : i < j) :
    PlanTiles.Lex G (· < ·) (sortedFrom (fun k k' => decide (G k' < G k)) i) (sortedFrom (fun k k' => decide (G k' < G k)) j) :=
  List.pairwise_iff_get.mp (PlanTiles.pairwise_stableSort_lex G (· < ·) (List.finRange n) (List.pairwise_lt_finRange n)) _ _ h

/-- Sorting by the numbers is sorting by how many lie below them. -/
theorem rank_eq (i : Fin 16) : rank p i = sortedFrom (fun k k' => decide (below p k' < below p k)) i :=
  congrArg (fun B => sortedFrom B i) (funext fun k => funext fun k' => decide_eq_decide.mpr (below_lt_iff p k' k).symm)

/-- An earlier rank holds a greater number, or an equal one at a lower position. -/
theorem rank_lt {i j : Fin 16} (h : i < j) : p (rank p j) < p (rank p i) ∨ (p (rank p i) = p (rank p j) ∧ rank p i < rank p j) := by
  have hL := sortedFrom_lex (below p) h
  rw [← rank_eq, ← rank_eq] at hL
  rcases hL with h1 | ⟨h1, h2⟩
  · exact Or.inl ((below_lt_iff p _ _).mp h1)
  · refine Or.inr ⟨?_, h2⟩
    refine le_antisymm (not_lt.mp fun hc => ?_) (not_lt.mp fun hc => ?_)
    · exact absurd h1 ((below_lt_iff p _ _).mpr hc).ne'
    · exact absurd h1 ((below_lt_iff p _ _).mpr hc).ne

/-- The two ranks are different positions. -/
theorem rank_ne : rank p 0 ≠ rank p 1 := fun h =>
  absurd (sortedFrom_injective _ h) (by decide)

/-- Every other number comes after the greatest. -/
theorem first_spec (k : Fin 16) (hk : k ≠ rank p 0) : p k < p (rank p 0) ∨ (p (rank p 0) = p k ∧ rank p 0 < k) := by
  obtain ⟨i, rfl⟩ := sortedFrom_surjective (fun k k' : Fin 16 => decide (p k' < p k)) k
  have hi : (0 : Fin 16) < i := Fin.pos_iff_ne_zero.mpr fun h => hk (by rw [h]; rfl)
  exact rank_lt p hi

/-- Every number but the greatest comes after the second. -/
theorem second_spec (k : Fin 16) (h0 : k ≠ rank p 0) (h1 : k ≠ rank p 1) :
    p k < p (rank p 1) ∨ (p (rank p 1) = p k ∧ rank p 1 < k) := by
  obtain ⟨i, rfl⟩ := sortedFrom_surjective (fun k k' : Fin 16 => decide (p k' < p k)) k
  have hi : (1 : Fin 16) < i := by
    rcases lt_trichotomy i 1 with h | h | h
    · exact absurd (by rw [show i = 0 by omega]; rfl) h0
    · exact absurd (by rw [h]; rfl) h1
    · exact h
  exact rank_lt p hi

/-! ## Taking a maximum and its first position -/

/-- If `m` is one of the numbers and none exceeds it, the running maximum from minus infinity is `m`. -/
theorem fold_max_eq (q : Fin 16 → EReal) (a : Fin 16) (h : ∀ k, q k ≤ q a) : Finset.univ.fold max ⊥ q = q a :=
  le_antisymm ((Finset.fold_max_le _).mpr ⟨bot_le, fun k _ => h k⟩) (Finset.le_fold_max _ |>.mpr (Or.inr ⟨a, Finset.mem_univ _, le_rfl⟩))

/-- The signed minimum of two words, as integers. -/
theorem toInt_minsi (x y : BitVec 32) : (IntOp.minsi x y).toInt = min x.toInt y.toInt := by
  unfold IntOp.minsi
  rw [BitVec.slt_eq_decide]
  by_cases h : x.toInt < y.toInt
  · rw [if_pos (by simpa using h), min_eq_left h.le]
  · rw [if_neg (by simpa using h), min_eq_right (not_lt.mp h)]

/-- A position below sixteen as a word is that number. -/
theorem toInt_pos (k : Fin 16) : (BitVec.ofNat 32 k.val).toInt = (k.val : ℤ) := by
  revert k; decide

/-- Two positions below sixteen are equal words only where they are equal. -/
theorem pos_inj (k a : Fin 16) : BitVec.ofNat 32 k.val = BitVec.ofNat 32 a.val ↔ k = a :=
  ⟨fun h => Fin.ext (by have := congrArg BitVec.toInt h; rw [toInt_pos, toInt_pos] at this; exact_mod_cast this), fun h => by rw [h]⟩

/-- The running signed minimum of the positions where a number equals `m`, sixteen standing for the rest, is the first such
    position. -/
theorem fold_minsi_eq (q : Fin 16 → EReal) (m : EReal) (a : Fin 16) (ha : q a = m) (h : ∀ k, q k = m → a ≤ k) :
    Finset.univ.fold IntOp.minsi 2147483647#32 (fun x => if q x = m then BitVec.ofNat 32 x.val else 16#32) = BitVec.ofNat 32 a.val := by
  refine BitVec.eq_of_toInt_eq ?_
  rw [← Finset.fold_hom (op := IntOp.minsi) (op' := min) (m := BitVec.toInt) toInt_minsi, toInt_pos]
  refine le_antisymm (Finset.fold_min_le _ |>.mpr (Or.inr ⟨a, Finset.mem_univ _, ?_⟩)) (Finset.le_fold_min _ |>.mpr ⟨?_, fun k _ => ?_⟩)
  · show (if q a = m then BitVec.ofNat 32 a.val else 16#32).toInt ≤ _
    rw [if_pos ha, toInt_pos]
  · have : (2147483647#32 : BitVec 32).toInt = 2147483647 := by decide
    rw [this]; omega
  · show _ ≤ (if q k = m then BitVec.ofNat 32 k.val else 16#32).toInt
    by_cases hk : q k = m
    · rw [if_pos hk, toInt_pos]; exact_mod_cast h k hk
    · rw [if_neg hk, show (16#32 : BitVec 32).toInt = 16 by decide]; omega

/-- The greatest number is at most itself: nothing exceeds the number at rank zero. -/
theorem le_first (k : Fin 16) : p k ≤ p (rank p 0) := by
  by_cases hk : k = rank p 0
  · rw [hk]
  · rcases first_spec p k hk with h | ⟨h, -⟩
    · exact h.le
    · exact h.ge

/-- The maximum of the numbers is the number at rank zero. -/
theorem max_eq : Finset.univ.fold max ⊥ p = p (rank p 0) := fold_max_eq p _ (le_first p)

/-- The first position of the maximum is rank zero's. -/
theorem argmax_eq : Finset.univ.fold IntOp.minsi 2147483647#32 (fun x => if p x = p (rank p 0) then BitVec.ofNat 32 x.val else 16#32)
    = BitVec.ofNat 32 (rank p 0).val :=
  fold_minsi_eq p _ _ rfl fun k hk => by
    by_cases h : k = rank p 0
    · rw [h]
    · rcases first_spec p k h with h' | ⟨-, h'⟩
      · exact absurd hk h'.ne
      · exact h'.le

/-- The numbers with the greatest overwritten by minus one. -/
def struck (k : Fin 16) : EReal := if k = rank p 0 then ((-1 : ℝ) : EReal) else p k

/-- At the second rank nothing was overwritten. -/
theorem struck_second : struck p (rank p 1) = p (rank p 1) := if_neg (rank_ne p).symm

variable {p}

/-- A number that is not negative exceeds minus one. -/
theorem neg_one_lt {x : EReal} (hx : 0 ≤ x) : ((-1 : ℝ) : EReal) < x :=
  lt_of_lt_of_le (by exact_mod_cast (by norm_num : (-1 : ℝ) < 0)) hx

/-- Where no number is negative, the maximum after striking the greatest is the number at rank one. -/
theorem struck_max_eq (hp : ∀ k, 0 ≤ p k) : Finset.univ.fold max ⊥ (struck p) = p (rank p 1) := by
  rw [← struck_second p]
  refine fold_max_eq _ _ fun k => ?_
  rw [struck_second]
  unfold struck
  by_cases h0 : k = rank p 0
  · rw [if_pos h0]; exact (neg_one_lt (hp _)).le
  · rw [if_neg h0]
    by_cases h1 : k = rank p 1
    · rw [h1]
    · rcases second_spec p k h0 h1 with h | ⟨h, -⟩
      · exact h.le
      · exact h.ge

/-- Where no number is negative, the first position of that maximum is rank one's. -/
theorem struck_argmax_eq (hp : ∀ k, 0 ≤ p k) :
    Finset.univ.fold IntOp.minsi 2147483647#32 (fun x => if struck p x = p (rank p 1) then BitVec.ofNat 32 x.val else 16#32)
      = BitVec.ofNat 32 (rank p 1).val := by
  refine fold_minsi_eq _ _ _ (struck_second p) fun k hk => ?_
  unfold struck at hk
  by_cases h0 : k = rank p 0
  · rw [if_pos h0] at hk; exact absurd hk (neg_one_lt (hp _)).ne
  · rw [if_neg h0] at hk
    by_cases h1 : k = rank p 1
    · rw [h1]
    · rcases second_spec p k h0 h1 with h | ⟨-, h⟩
      · exact absurd hk h.ne
      · exact h.le

/-! ## The weights -/

/-- The weight of expert `e`: its share if it is one of the two, zero otherwise. -/
def weight (p : Fin 16 → EReal) (e : Fin 16) : EReal :=
  (if e = rank p 0 then share p (rank p 0) else 0) + (if e = rank p 1 then share p (rank p 1) else 0)

/-- Summing sixteen outputs by their weights is adding the two chosen outputs by their shares. -/
theorem sum_weight (p o : Fin 16 → EReal) : ∑ e, weight p e * o e = routed p o := by
  rw [Finset.sum_eq_add (rank p 0) (rank p 1) (rank_ne p)]
  · unfold weight routed
    rw [if_pos rfl, if_neg (rank_ne p), if_neg (rank_ne p).symm, if_pos rfl, add_zero, zero_add]
  · intro e _ he
    unfold weight
    rw [if_neg he.1, if_neg he.2, add_zero, zero_mul]
  · intro h; exact absurd (Finset.mem_univ _) h
  · intro h; exact absurd (Finset.mem_univ _) h

end Cert.Moe

end
-- ==== Proof.Router.lean ====
/-
  The router's numbers: the two ways of normalising a row agree, the logits are real numbers and the same whether the pilots are
  averaged before or after the similarities, and no probability is negative.
-/
module

public import proofs.«01_k».proof.Proof.TopTwo

@[expose] public section

noncomputable section

namespace Cert.Moe

open Idealize.ShloMosaic
open scoped BigOperators

/-- The guarded variance is positive. -/
theorem spread_pos (x : Fin 2048 → EReal) : 0 < spread x := by
  obtain ⟨e, he, h⟩ := word_eps
  unfold spread
  rw [h, word_2048]
  have h0 : 0 ≤ Ideal.div (∑ k, (x k - mean x) * (x k - mean x)) ((2048 : ℝ) : EReal) :=
    div_nonneg' (by norm_num) (sum_sq_nonneg fun k => x k - mean x)
  exact lt_of_lt_of_le (by exact_mod_cast he : (0 : EReal) < (e : EReal)) (le_add_of_nonneg_left h0)

/-- Dividing by the square root of the guarded variance normalises the row. -/
theorem normRow_div (x g b : Fin 2048 → EReal) (l : Fin 2048) :
    Ideal.div (x l - mean x) (Ideal.sqrt (spread x)) * g l + b l = normRow x g b l := by
  unfold normRow; rw [div_sqrt _ (spread_pos x)]

/-- A row divided by its guarded norm is a row of reals. -/
theorem unit_reals (v : Fin 2048 → EReal) : ∃ q : Fin 2048 → ℝ, unit v = fun l => (q l : EReal) := by
  choose q hq using fun l => unit_real v _ word_tiny l
  exact ⟨q, funext hq⟩

/-- The similarities of the unit query with an expert's four unit vectors, averaged and divided by the temperature, are the
    expert's logit; and it is a real number. -/
theorem logit_eq (v : Fin 2048 → EReal) (m : Fin 4 → Fin 2048 → EReal) :
    Ideal.div (Ideal.div (∑ c, ∑ k, unit v k * unit (m c) k) (Ideal.ofBits .f32 0x40800000#32)) (Ideal.ofBits .f32 0x3DCCCCCD#32)
        = logit v m ∧ ∃ z : ℝ, logit v m = (z : EReal) := by
  obtain ⟨u, hu⟩ := unit_reals v
  choose q hq using fun c => unit_reals (m c)
  have hl : logit v m = (((∑ k, u k * ((∑ c, q c k) / 4)) * (134217728 / 13421773) : ℝ) : EReal) := by
    unfold logit pilotMean
    simp only [hu, hq, word_4, sum_real, div_real _ (by norm_num : (4 : ℝ) ≠ 0), ← EReal.coe_mul]
  refine ⟨?_, _, hl⟩
  rw [hl]
  simp only [hu, hq, word_4, word_temp, sum_real, ← EReal.coe_mul, div_real _ (by norm_num : (4 : ℝ) ≠ 0),
    div_real _ (by norm_num : (13421773 / 134217728 : ℝ) ≠ 0)]
  congr 1
  rw [Finset.sum_comm]
  simp only [← Finset.mul_sum, ← mul_div_assoc]
  rw [← Finset.sum_div]
  field_simp

/-- A probability of real logits is not negative. -/
theorem softmax_nonneg (z : Fin 16 → ℝ) (e : Fin 16) : 0 ≤ softmax (fun k => (z k : EReal)) e := by
  unfold softmax
  rw [max_eq]
  simp only [← EReal.coe_sub, Ideal.exp_coe, sum_real]
  have hs : (0 : ℝ) < ∑ k, Real.exp (z k - z (rank (fun k => (z k : EReal)) 0)) :=
    Finset.sum_pos (fun k _ => Real.exp_pos _) ⟨0, Finset.mem_univ _⟩
  rw [div_real _ hs.ne']
  exact_mod_cast div_nonneg (Real.exp_pos _).le hs.le

/-- No expert's probability is negative. -/
theorem probs_nonneg (n q : Fin 2048 → EReal) (pilot : Fin 16 → Fin 4 → Fin 2048 → EReal) (W : Fin 4096 → Fin 2048 → EReal)
    (b : Fin 2048 → EReal) (e : Fin 16) : 0 ≤ probs n q pilot W b e := by
  choose z hz using fun e => (logit_eq (queryRow n q W b) (pilot e)).2
  unfold probs
  simp only [hz]
  exact softmax_nonneg z e

end Cert.Moe

end
-- ==== Proof.RouterBlock.lean ====
/-
  What the router's body computes on one block of 256 rows: at each row the normalised row, and the sixteen experts' weights.
-/
module

public import proofs.«01_k».proof.Proof.Gen.KernelIdeal.Skeleton
public import proofs.«01_k».proof.Proof.Router

@[expose] public section

set_option maxRecDepth 16384

noncomputable section

namespace Cert.Moe

open Idealize.ShloMosaic Cert.KernelIdeal Cert.KernelIdeal.Gen
open scoped BigOperators

variable (v0 : Vec Ideal S256x2048 .f32) (v19 v23 : Vec Ideal S1x2048 .f32) (v27 : Vec Ideal S2048x2048 .f32)
  (v29 : Vec Ideal S256x2048 .f32) (v30 : Vec Ideal S2048x2048 .f32) (v33 : Vec Ideal S1x2048 .f32) (v45 : Vec Ideal S2048x16 .f32)

/-- A row of the first block the body computes is the normalised row. -/
theorem pay3_at (r : Fin 256) (l : Fin 2048) :
    k0_pay3 v0 v19 v23 (ix2 r l) = normRow (fun k => v0 (ix2 r k)) (fun k => v19 (ix2 0 k)) (fun k => v23 (ix2 0 k)) l := by
  pointwise [k0_pay3]
  rfl

/-- The stored normalised block is that block: its narrowing changes no number. -/
theorem pay2_at (r : Fin 256) (l : Fin 2048) :
    k0_pay2 (k0_pay3 v0 v19 v23) (ix2 r l)
      = normRow (fun k => v0 (ix2 r k)) (fun k => v19 (ix2 0 k)) (fun k => v23 (ix2 0 k)) l := by
  rw [← pay3_at]
  pointwise [k0_pay2]

/-- A row of the next block is the router's query, `W` being the projection whose halves the body reads. -/
theorem pay4_at (W : Fin 4096 → Fin 2048 → EReal) (h27 : ∀ k l : Fin 2048, v27 (ix2 k l) = W ⟨k, by omega⟩ l)
    (h30 : ∀ k l : Fin 2048, v30 (ix2 k l) = W ⟨2048 + k, by omega⟩ l) (r : Fin 256) (l : Fin 2048) :
    k0_pay4 v0 v19 v23 v27 v29 v30 v33 (ix2 r l)
      = queryRow (normRow (fun k => v0 (ix2 r k)) (fun k => v19 (ix2 0 k)) (fun k => v23 (ix2 0 k))) (fun k => v29 (ix2 r k)) W
          (fun k => v33 (ix2 0 k)) l := by
  pointwise [k0_pay4]
  simp only [pay3_at, h27, h30]
  rfl

/-- The block of squares. -/
theorem pay5_at (r : Fin 256) (l : Fin 2048) :
    k0_pay5 v0 v19 v23 v27 v29 v30 v33 (ix2 r l)
      = k0_pay4 v0 v19 v23 v27 v29 v30 v33 (ix2 r l) * k0_pay4 v0 v19 v23 v27 v29 v30 v33 (ix2 r l) := by
  pointwise [k0_pay5]

/-- Selecting where two positions are the same word is selecting where they are the same position. -/
theorem select_pos (k a : Fin 16) (x y : EReal) :
    Scalar.select (IntOp.cmpi .eq (BitVec.ofNat 32 k.val) (BitVec.ofNat 32 a.val)) x y = if k = a then x else y := by
  by_cases h : k = a
  · subst h; simp [Scalar.select, IntOp.cmpi]
  · rw [if_neg h]
    have : (BitVec.ofNat 32 k.val == BitVec.ofNat 32 a.val) = false := beq_eq_false_iff_ne.mpr fun e => h ((pos_inj k a).mp e)
    simp [Scalar.select, IntOp.cmpi, this]

/-- The constant by which the scores are multiplied. -/
theorem inv_temp : (Named.named κ "inv_temp" 0x41200000#32 : Ideal .f32) = ((134217728 / 13421773 : ℝ) : EReal) := by
  exact IdealRules.named_const.ideal_named_scalar κ "inv_temp" _ _ rfl

variable (v36 v37 : FVec Ideal S256x2048 .f32) (P : Fin 16 → Fin 4 → Fin 2048 → EReal)

section Picks
variable (r : Fin 256) (hsq : ∀ l : Fin 2048, v37 (ix2 r l) = v36 (ix2 r l) * v36 (ix2 r l))
  (hP : ∀ (k : Fin 2048) (e : Fin 16), v45 (ix2 k e) = pilotMean (P e) k)
include hsq hP

/-- A row of probabilities: the softmax of the logits of the query row `v36` against the pilots. -/
theorem pay6_at (e : Fin 16) :
    k0_pay6 v36 v37 v45 (ix2 r e) = softmax (fun e => logit (fun k => v36 (ix2 r k)) (P e)) e := by
  pointwise [k0_pay6]
  simp only [hsq, hP, inv_temp, word_bot]
  rfl

/-- The greatest probability. -/
theorem pay7_at (p : Fin 16 → EReal) (hp : p = softmax fun e => logit (fun k => v36 (ix2 r k)) (P e)) :
    k0_pay7 v36 v37 v45 (ix2 r 0) = p (rank p 0) := by
  pointwise [k0_pay7]
  simp only [pay6_at v45 v36 v37 P r hsq hP, ← hp, word_bot]
  exact max_eq p

/-- Where it stands. -/
theorem pay8_at (p : Fin 16 → EReal) (hp : p = softmax fun e => logit (fun k => v36 (ix2 r k)) (P e)) :
    k0_pay8 v36 v37 v45 (ix2 r 0) = BitVec.ofNat 32 (rank p 0).val := by
  pointwise [k0_pay8]
  simp only [pay6_at v45 v36 v37 P r hsq hP, pay7_at v45 v36 v37 P r hsq hP p hp, ← hp]
  exact argmax_eq p

/-- The probabilities with the greatest struck out. -/
theorem pay9_at (p : Fin 16 → EReal) (hp : p = softmax fun e => logit (fun k => v36 (ix2 r k)) (P e)) (e : Fin 16) :
    k0_pay9 v36 v37 v45 (ix2 r e) = struck p e := by
  pointwise [k0_pay9]
  rw [pay6_at v45 v36 v37 P r hsq hP, pay8_at v45 v36 v37 P r hsq hP p hp, ← hp, word_neg_one, select_pos]
  rfl

/-- The second greatest probability. -/
theorem pay10_at (p : Fin 16 → EReal) (hp : p = softmax fun e => logit (fun k => v36 (ix2 r k)) (P e)) (h0 : ∀ k, 0 ≤ p k) :
    k0_pay10 v36 v37 v45 (ix2 r 0) = p (rank p 1) := by
  pointwise [k0_pay10]
  simp only [pay9_at v45 v36 v37 P r hsq hP p hp, word_bot]
  exact struck_max_eq h0

/-- Where it stands. -/
theorem pay11_at (p : Fin 16 → EReal) (hp : p = softmax fun e => logit (fun k => v36 (ix2 r k)) (P e)) (h0 : ∀ k, 0 ≤ p k) :
    k0_pay11 v36 v37 v45 (ix2 r 0) = BitVec.ofNat 32 (rank p 1).val := by
  pointwise [k0_pay11]
  simp only [pay9_at v45 v36 v37 P r hsq hP p hp, pay10_at v45 v36 v37 P r hsq hP p hp h0]
  exact struck_argmax_eq h0

/-- A row of weights. -/
theorem weights_at (p : Fin 16 → EReal) (hp : p = softmax fun e => logit (fun k => v36 (ix2 r k)) (P e)) (h0 : ∀ k, 0 ≤ p k)
    (e : Fin 16) :
    k0_pay1 (iota .tc S256x16 32 [1] iota_S256x16_d1_w32) (k0_pay7 v36 v37 v45) (k0_pay8 v36 v37 v45) (k0_pay10 v36 v37 v45)
      (k0_pay11 v36 v37 v45) (k0_pay12 v36 v37 v45) (k0_pay13 (F := Ideal)) (ix2 r e) = weight p e := by
  pointwise [k0_pay1, k0_pay12, k0_pay13]
  rw [pay7_at v45 v36 v37 P r hsq hP p hp, pay8_at v45 v36 v37 P r hsq hP p hp, pay10_at v45 v36 v37 P r hsq hP p hp h0,
    pay11_at v45 v36 v37 P r hsq hP p hp h0, select_pos, select_pos]
  rfl

end Picks

end Cert.Moe

end
-- ==== Proof.RouterArray.lean ====
/-
  The arrays of the normalised rows and of the experts' weights: 32 blocks of 256 rows.
-/
module

public import proofs.«01_k».proof.Proof.Gen.KernelIdeal.Frame
public import proofs.«01_k».proof.Proof.RouterBlock
public import Idealize.ShloMosaic.Lib.Pipeline.ValueKit

@[expose] public section

set_option maxRecDepth 16384

noncomputable section

namespace Cert.Moe

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)

/-- Which block of each array a grid point takes. -/
theorem idx0 : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] :=
  (by decide +kernel : ∀ t : Fin grid0.N, _)

/-- A row of the block of inputs is a row of their array. -/
theorem in0_0 (t : Fin cfg0.N) (r : Fin 256) (k : Fin 2048) (i : Fin 8192) (hi : i.val = t.val * 256 + r.val) :
    iblk0 V c 0 t (ix2 r k) = V c main_arg0 (ix2 i k) := by
  blk_ext [iblk0, idx0 t]

/-- A row of the block of query rows is a row of their array. -/
theorem in0_1 (t : Fin cfg0.N) (r : Fin 256) (k : Fin 2048) (i : Fin 8192) (hi : i.val = t.val * 256 + r.val) :
    iblk0 V c 1 t (ix2 r k) = V c main_arg1 (ix2 i k) := by
  blk_ext [iblk0, idx0 t]

/-- The normalisation's scale is read whole. -/
theorem in0_2 (t : Fin cfg0.N) (k : Fin 2048) : iblk0 V c 2 t (ix2 0 k) = V c main_v8 (ix2 0 k) := by
  blk_ext [iblk0, idx0 t]

/-- The normalisation's shift is read whole. -/
theorem in0_3 (t : Fin cfg0.N) (k : Fin 2048) : iblk0 V c 3 t (ix2 0 k) = V c main_v9 (ix2 0 k) := by
  blk_ext [iblk0, idx0 t]

/-- The projection's matrix is read whole. -/
theorem in0_4 (t : Fin cfg0.N) (k : Fin 4096) (l : Fin 2048) : iblk0 V c 4 t (ix2 k l) = V c main_arg5 (ix2 k l) := by
  blk_ext [iblk0, idx0 t]

/-- The projection's bias is read whole. -/
theorem in0_5 (t : Fin cfg0.N) (k : Fin 2048) : iblk0 V c 5 t (ix2 0 k) = V c main_v10 (ix2 0 k) := by
  blk_ext [iblk0, idx0 t]

/-- The pilots are read whole. -/
theorem in0_6 (t : Fin cfg0.N) (k : Fin 2048) (e : Fin 16) : iblk0 V c 6 t (ix2 k e) = V c main_v7 (ix2 k e) := by
  blk_ext [iblk0, idx0 t]

/-- Where an element of the block of normalised rows stands in their array. -/
theorem out0_rows (t : Fin cfg0.N) (r : Fin 256) (l : Fin 2048) :
    ∃ i : Fin 8192, i.val = t.val * 256 + r.val ∧ ((View.whole main_v11_0).slice (win0_7.rect t)).emb (ix2 r l) = ix2 i l := by
  refine ⟨((View.whole main_v11_0).slice (win0_7.rect t)).emb (ix2 r l) 0, ?_, ?_⟩
  · blk_ext [idx0 t]
  · blk_ext [idx0 t]

/-- Where an element of the block of weights stands in their array. -/
theorem out0_weights (t : Fin cfg0.N) (r : Fin 256) (l : Fin 16) :
    ∃ i : Fin 8192, i.val = t.val * 256 + r.val ∧ ((View.whole main_v11_1).slice (win0_8.rect t)).emb (ix2 r l) = ix2 i l := by
  refine ⟨((View.whole main_v11_1).slice (win0_8.rect t)).emb (ix2 r l) 0, ?_, ?_⟩
  · blk_ext [idx0 t]
  · blk_ext [idx0 t]

/-- The upper half of the projection's matrix. -/
theorem proj_upper (t : Fin cfg0.N) (k l : Fin 2048) :
    View.ld (iblk0 V c 4 t) r0_2 (ix2 k l) = V c main_arg5 (ix2 ⟨k, by omega⟩ l) := by
  refine (View.ld_unit_apply_of (S := S4096x2048) _ _ _ _ (ix2 k l) (ix2 ⟨k, by omega⟩ l) fun a => ?_).trans (in0_4 V c t _ l)
  match a with
  | ⟨0, _⟩ => exact (Nat.zero_add _).symm
  | ⟨1, _⟩ => exact (Nat.zero_add _).symm

/-- The lower half of the projection's matrix. -/
theorem proj_lower (t : Fin cfg0.N) (k l : Fin 2048) :
    View.ld (iblk0 V c 4 t) r0_3 (ix2 k l) = V c main_arg5 (ix2 ⟨2048 + k, by omega⟩ l) := by
  refine (View.ld_unit_apply_of (S := S4096x2048) _ _ _ _ (ix2 k l) (ix2 ⟨2048 + k, by omega⟩ l) fun a => ?_).trans (in0_4 V c t _ l)
  match a with
  | ⟨0, _⟩ => rfl
  | ⟨1, _⟩ => exact (Nat.zero_add _).symm

/-- A row of the input, normalised. -/
def normed (i : Fin 8192) : Fin 2048 → EReal :=
  normRow (fun k => V c main_arg0 (ix2 i k)) (fun k => V c main_v8 (ix2 0 k)) (fun k => V c main_v9 (ix2 0 k))

/-- The array of the normalised rows. -/
theorem normed_array : (dat0 (F := Ideal) V c).arrAt 7 cfg0.N = fun (i : S8192x2048.Idx) => normed V c (i 0) (i 1) := by
  refine (dat0 V c).arrAt_eq_of_covers 7 _ (by decide +kernel) fun t hf y => ?_
  blk_simp
  rw [after0_7]
  unfold out0_7
  frame_out
  idx_vars y
  obtain ⟨i, hi, he⟩ := out0_rows t y0 y1
  rw [he, pay2_at]
  simp only [fun k => in0_0 V c t y0 k i hi, in0_2, in0_3]
  rfl

/-- A row's query. -/
theorem query_at (t : Fin cfg0.N) (r : Fin 256) (i : Fin 8192) (hi : i.val = t.val * 256 + r.val) (l : Fin 2048) :
    k0_pay4 (iblk0 V c 0 t) (iblk0 V c 2 t) (iblk0 V c 3 t) (View.ld (iblk0 V c 4 t) r0_2) (iblk0 V c 1 t)
      (View.ld (iblk0 V c 4 t) r0_3) (iblk0 V c 5 t) (ix2 r l)
      = queryRow (normed V c i) (fun k => V c main_arg1 (ix2 i k)) (fun k l => V c main_arg5 (ix2 k l)) (fun k => V c main_v10 (ix2 0 k)) l := by
  rw [pay4_at _ _ _ _ _ _ _ (fun k l => V c main_arg5 (ix2 k l)) (proj_upper V c t) (proj_lower V c t)]
  simp only [fun k => in0_0 V c t r k i hi, fun k => in0_1 V c t r k i hi, in0_2, in0_3, in0_5]
  rfl

/-- The array of the weights, the pilots' array holding the mean unit vectors of `P`. -/
theorem weights_array (P : Fin 16 → Fin 4 → Fin 2048 → EReal)
    (hP : ∀ (k : Fin 2048) (e : Fin 16), V c main_v7 (ix2 k e) = pilotMean (P e) k) :
    (dat0 (F := Ideal) V c).arrAt 8 cfg0.N = fun (i : S8192x16.Idx) =>
      weight (probs (normed V c (i 0)) (fun k => V c main_arg1 (ix2 (i 0) k)) P (fun k l => V c main_arg5 (ix2 k l))
        (fun k => V c main_v10 (ix2 0 k))) (i 1) := by
  refine (dat0 V c).arrAt_eq_of_covers 8 _ (by decide +kernel) fun t hf y => ?_
  blk_simp
  rw [after0_8]
  unfold out0_8 k0_pay14 k0_pay15
  frame_out
  idx_vars y
  obtain ⟨i, hi, he⟩ := out0_weights t y0 y1
  rw [he]
  have hq := query_at V c t y0 i hi
  exact weights_at (iblk0 V c 6 t) _ _ P y0 (pay5_at _ _ _ _ _ _ _ y0) (fun k e => (in0_6 V c t k e).trans (hP k e)) _
    (congrArg (fun q => softmax fun e => logit q (P e)) (funext fun l => (hq l).symm)) (probs_nonneg _ _ _ _ _) y1

end Cert.Moe
-- ==== Proof.NetBlocks.lean ====
/-
  What the bodies of the shared network, of the experts and of the combination compute on one block, at one row and column.
-/
module

public import proofs.«01_k».proof.Proof.Gen.KernelIdeal.Skeleton
public import proofs.«01_k».proof.Proof.TopTwo

@[expose] public section

set_option maxRecDepth 16384

noncomputable section

namespace Cert.Moe

open Idealize.ShloMosaic Cert.KernelIdeal Cert.KernelIdeal.Gen
open scoped BigOperators

/-- The shared network on a block of 256 normalised rows. -/
theorem shared_at (v0 : Vec Ideal S256x2048 .bf16) (v2 : Vec Ideal S2048x2048 .bf16) (v5 : Vec Ideal S1x2048 .f32)
    (v12 : Vec Ideal S2048x16 .bf16) (v15 : Vec Ideal S1x16 .f32) (r : Fin 256) (l : Fin 16) :
    k1_pay1 v0 v2 v5 v12 v15 (ix2 r l)
      = mlp (fun k => v0 (ix2 r k)) (fun j k => v2 (ix2 j k)) (fun k => v5 (ix2 0 k)) (fun k l => v12 (ix2 k l))
          (fun l => v15 (ix2 0 l)) l := by
  pointwise [k1_pay1]
  rfl

/-- One expert on a block of 512 normalised rows. -/
theorem expert_at (v2 : Vec Ideal S512x2048 .bf16) (v4 : Vec Ideal S1x2048x2048 .bf16) (v7 : Vec Ideal S1x1x2048 .f32)
    (v14 : Vec Ideal S1x2048x16 .bf16) (v17 : Vec Ideal S1x1x16 .f32) (e : Fin 1) (r : Fin 512) (l : Fin 16) :
    k2_pay1 v2 v4 v7 v14 v17 (ix3 e r l)
      = mlp (fun k => v2 (ix2 r k)) (fun j k => v4 (ix3 0 j k)) (fun k => v7 (ix3 0 0 k)) (fun k l => v14 (ix3 0 k l))
          (fun l => v17 (ix3 0 0 l)) l := by
  pointwise [k2_pay1]
  rfl

/-- Sixteen terms added one after the other. -/
theorem sum_chain (f : Fin 16 → EReal) : ∑ e, f e = f 0 + f 1 + f 2 + f 3 + f 4 + f 5 + f 6 + f 7 + f 8 + f 9 + f 10 + f 11
    + f 12 + f 13 + f 14 + f 15 := by
  simp only [Fin.sum_univ_castSucc, Finset.univ_eq_empty, Finset.sum_empty, zero_add]
  rfl

/-- The combination on a block of 512 rows: the experts' outputs `A` by their weights `w`, the shared outputs `s`, and the gate
    `G`, whose halves the body reads. -/
theorem combine_at (w : Vec Ideal S512x16 .f32) (A : Fin 16 → Vec Ideal S1x512x16 .f32) (s : Vec Ideal S512x16 .f32)
    (Ga Gb : Vec Ideal S16x16 .f32) (gb : Vec Ideal S1x16 .f32) (G : Fin 32 → Fin 16 → EReal)
    (ha : ∀ k l : Fin 16, Ga (ix2 k l) = G ⟨k, by omega⟩ l) (hb : ∀ k l : Fin 16, Gb (ix2 k l) = G ⟨16 + k, by omega⟩ l)
    (p : Fin 16 → EReal) (r : Fin 512) (hw : ∀ e : Fin 16, w (ix2 r e) = weight p e) (l : Fin 16) :
    k3_pay1
      (k3_pay8 (k3_pay2 w)
        (k3_pay6 (k3_pay2 w) (k3_pay3 w (A 0) (A 1) (A 2) (A 3)) (k3_pay4 (A 4)) (k3_pay5 w) (A 5) (A 6) (A 7) (A 8) (A 9))
        (k3_pay7 (k3_pay2 w)) (A 10) (A 11) (A 12) (A 13) (A 14))
      (k3_pay9 (k3_pay2 w)) (k3_pay10 (A 15)) Ga s Gb gb (ix2 r l)
      = gate (fun k => routed p fun e => A e (ix3 0 r k)) (fun k => s (ix2 r k)) G (fun k => gb (ix2 0 k)) l := by
  pointwise [k3_pay1, k3_pay2, k3_pay3, k3_pay4, k3_pay5, k3_pay6, k3_pay7, k3_pay8, k3_pay9, k3_pay10]
  unfold gate
  simp only [← sum_weight, sum_chain, ha, hb, hw]

end Cert.Moe

end
-- ==== Proof.SharedArray.lean ====
/-
  The array of the shared network's outputs: 32 blocks of 256 rows, each row through the network.
-/
module

public import proofs.«01_k».proof.Proof.Gen.KernelIdeal.Frame
public import proofs.«01_k».proof.Proof.NetBlocks
public import Idealize.ShloMosaic.Lib.Pipeline.ValueKit

@[expose] public section

set_option maxRecDepth 16384

noncomputable section

namespace Cert.Moe

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)

/-- Which block of each array a grid point takes. -/
theorem idx1 : ∀ t : Fin cfg1.N, win1_0.index t = ![t.val, 0] ∧ win1_1.index t = ![0, 0] ∧ win1_2.index t = ![0, 0]
    ∧ win1_3.index t = ![0, 0] ∧ win1_4.index t = ![0, 0] ∧ win1_5.index t = ![t.val, 0] :=
  (by decide +kernel : ∀ t : Fin grid1.N, _)

/-- A row of the block of normalised rows is a row of their array. -/
theorem in1_0 (t : Fin cfg1.N) (r : Fin 256) (k : Fin 2048) (i : Fin 8192) (hi : i.val = t.val * 256 + r.val) :
    iblk1 V c 0 t (ix2 r k) = V c main_v11_0 (ix2 i k) := by
  blk_ext [iblk1, idx1 t]

/-- The first layer's matrix is read whole. -/
theorem in1_1 (t : Fin cfg1.N) (j k : Fin 2048) : iblk1 V c 1 t (ix2 j k) = V c main_v12 (ix2 j k) := by
  blk_ext [iblk1, idx1 t]

/-- The first layer's bias is read whole. -/
theorem in1_2 (t : Fin cfg1.N) (k : Fin 2048) : iblk1 V c 2 t (ix2 0 k) = V c main_v14 (ix2 0 k) := by
  blk_ext [iblk1, idx1 t]

/-- The second layer's matrix is read whole. -/
theorem in1_3 (t : Fin cfg1.N) (k : Fin 2048) (l : Fin 16) : iblk1 V c 3 t (ix2 k l) = V c main_v13 (ix2 k l) := by
  blk_ext [iblk1, idx1 t]

/-- The second layer's bias is read whole. -/
theorem in1_4 (t : Fin cfg1.N) (l : Fin 16) : iblk1 V c 4 t (ix2 0 l) = V c main_v15 (ix2 0 l) := by
  blk_ext [iblk1, idx1 t]

/-- Where an element of the block of results stands in their array. -/
theorem out1 (t : Fin cfg1.N) (r : Fin 256) (l : Fin 16) :
    ∃ i : Fin 8192, i.val = t.val * 256 + r.val ∧ ((View.whole main_v16).slice (win1_5.rect t)).emb (ix2 r l) = ix2 i l := by
  refine ⟨((View.whole main_v16).slice (win1_5.rect t)).emb (ix2 r l) 0, ?_, ?_⟩
  · blk_ext [idx1 t]
  · blk_ext [idx1 t]

/-- The array of the shared network's outputs. -/
theorem shared_array :
    (dat1 (F := Ideal) V c).arrAt 5 cfg1.N = fun (i : S8192x16.Idx) => mlp (fun k => V c main_v11_0 (ix2 (i 0) k)) (fun k l => V c main_v12 (ix2 k l))
      (fun k => V c main_v14 (ix2 0 k)) (fun k l => V c main_v13 (ix2 k l)) (fun k => V c main_v15 (ix2 0 k)) (i 1) := by
  refine (dat1 V c).arrAt_eq_of_covers 5 _ (by decide +kernel) fun t hf y => ?_
  blk_simp
  rw [after1_5]
  frame_out
  idx_vars y
  obtain ⟨i, hi, he⟩ := out1 t y0 y1
  rw [he, shared_at]
  simp only [fun k => in1_0 V c t y0 k i hi, in1_1, in1_2, in1_3, in1_4]
  rfl

end Cert.Moe
-- ==== Proof.ExpertsArray.lean ====
/-
  The array of the experts' outputs: for each of the 16 experts 16 blocks of 512 rows, each row through that expert.
-/
module

public import proofs.«01_k».proof.Proof.Gen.KernelIdeal.Frame
public import proofs.«01_k».proof.Proof.NetBlocks
public import Idealize.ShloMosaic.Lib.Pipeline.ValueKit

@[expose] public section

set_option maxRecDepth 16384

noncomputable section

namespace Cert.Moe

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)

/-- Which block of each array a grid point takes. -/
theorem idx2 : ∀ t : Fin cfg2.N, win2_0.index t = ![0, 0] ∧ win2_1.index t = ![t.val / 16, 0, 0] ∧ win2_2.index t = ![t.val / 16, 0, 0]
    ∧ win2_3.index t = ![t.val / 16, 0, 0] ∧ win2_4.index t = ![t.val / 16, 0, 0] ∧ win2_5.index t = ![t.val / 16, t.val % 16, 0] :=
  (by decide +kernel : ∀ t : Fin grid2.N, _)

/-- Where the rows a grid point takes begin. -/
theorem rows2 : ∀ t : Fin cfg2.N, k2_off1 (grid2.coords t) = ![(t.val % 16) * 512, 0] := (by decide +kernel : ∀ t : Fin grid2.N, _)

/-- A row of the rows taken is a row of the array of normalised rows. -/
theorem in2_0 (t : Fin cfg2.N) (r : Fin 512) (k : Fin 2048) (i : Fin 8192) (hi : i.val = (t.val % 16) * 512 + r.val) :
    View.ld (iblk2 V c 0 t) (Rect.unit (k2_off1 (grid2.coords t)) ![512, 2048] (k2_off1_inb (grid2.coords t))) (ix2 r k)
      = V c main_v11_0 (ix2 i k) := by
  refine (View.ld_unit_apply_of (S := S8192x2048) _ _ _ _ (ix2 r k) (ix2 i k) fun a => ?_).trans ?_
  · match a with
    | ⟨0, _⟩ => exact hi.trans (congrArg (· + r.val) (congrFun (rows2 t) 0).symm)
    | ⟨1, _⟩ => exact (Nat.zero_add _).symm.trans (congrArg (· + k.val) (congrFun (rows2 t) 1).symm)
  · blk_ext [iblk2, idx2 t]

/-- An expert's first matrix. -/
theorem in2_1 (t : Fin cfg2.N) (e : Fin 16) (he : e.val = t.val / 16) (j k : Fin 2048) :
    iblk2 V c 1 t (ix3 0 j k) = V c main_v17 (ix3 e j k) := by
  blk_ext [iblk2, idx2 t]

/-- An expert's first bias. -/
theorem in2_2 (t : Fin cfg2.N) (e : Fin 16) (he : e.val = t.val / 16) (k : Fin 2048) :
    iblk2 V c 2 t (ix3 0 0 k) = V c main_v19 (ix3 e 0 k) := by
  blk_ext [iblk2, idx2 t]

/-- An expert's second matrix. -/
theorem in2_3 (t : Fin cfg2.N) (e : Fin 16) (he : e.val = t.val / 16) (k : Fin 2048) (l : Fin 16) :
    iblk2 V c 3 t (ix3 0 k l) = V c main_v18 (ix3 e k l) := by
  blk_ext [iblk2, idx2 t]

/-- An expert's second bias. -/
theorem in2_4 (t : Fin cfg2.N) (e : Fin 16) (he : e.val = t.val / 16) (l : Fin 16) :
    iblk2 V c 4 t (ix3 0 0 l) = V c main_v20 (ix3 e 0 l) := by
  blk_ext [iblk2, idx2 t]

/-- Where an element of the block of results stands in their array. -/
theorem out2 (t : Fin cfg2.N) (z : Fin 1) (r : Fin 512) (l : Fin 16) :
    ∃ (e : Fin 16) (i : Fin 8192), e.val = t.val / 16 ∧ i.val = (t.val % 16) * 512 + r.val
      ∧ ((View.whole main_v21).slice (win2_5.rect t)).emb (ix3 z r l) = ix3 e i l := by
  refine ⟨((View.whole main_v21).slice (win2_5.rect t)).emb (ix3 z r l) 0,
    ((View.whole main_v21).slice (win2_5.rect t)).emb (ix3 z r l) 1, ?_, ?_, ?_⟩
  · blk_ext [idx2 t]
  · blk_ext [idx2 t]
  · blk_ext [idx2 t]

/-- The array of the experts' outputs. -/
theorem experts_array :
    (dat2 (F := Ideal) V c).arrAt 5 cfg2.N = fun (i : S16x8192x16.Idx) => mlp (fun k => V c main_v11_0 (ix2 (i 1) k)) (fun k l => V c main_v17 (ix3 (i 0) k l))
      (fun k => V c main_v19 (ix3 (i 0) 0 k)) (fun k l => V c main_v18 (ix3 (i 0) k l)) (fun k => V c main_v20 (ix3 (i 0) 0 k)) (i 2) := by
  refine (dat2 V c).arrAt_eq_of_covers 5 _ (by decide +kernel) fun t hf y => ?_
  blk_simp
  rw [after2_5]
  unfold outsAt2
  frame_out
  idx_vars y
  obtain ⟨e, i, he, hi, hp⟩ := out2 t y0 y1 y2
  rw [hp, expert_at]
  simp only [fun k => in2_0 V c t y1 k i hi, in2_1 V c t e he, in2_2 V c t e he, in2_3 V c t e he, in2_4 V c t e he]
  rfl

end Cert.Moe
-- ==== Proof.CombineArray.lean ====
/-
  The array of the results: 16 blocks of 512 rows, each row the gate of its routed and its shared outputs.
-/
module

public import proofs.«01_k».proof.Proof.Gen.KernelIdeal.Frame
public import proofs.«01_k».proof.Proof.NetBlocks
public import Idealize.ShloMosaic.Lib.Pipeline.ValueKit

@[expose] public section

set_option maxRecDepth 16384

noncomputable section

namespace Cert.Moe

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)

/-- Which block of each array a grid point takes. -/
theorem idx3 : ∀ t : Fin cfg3.N, win3_0.index t = ![0, t.val, 0] ∧ win3_1.index t = ![t.val, 0] ∧ win3_2.index t = ![t.val, 0]
    ∧ win3_3.index t = ![0, 0] ∧ win3_4.index t = ![0, 0] ∧ win3_5.index t = ![t.val, 0] :=
  (by decide +kernel : ∀ t : Fin grid3.N, _)

/-- An expert's outputs on a block's row are those of the array's row. -/
theorem in3_0 (t : Fin cfg3.N) (e : Fin 16) (r : Fin 512) (k : Fin 16) (i : Fin 8192) (hi : i.val = t.val * 512 + r.val) :
    iblk3 V c 0 t (ix3 e r k) = V c main_v21 (ix3 e i k) := by
  blk_ext [iblk3, idx3 t]

/-- A row of the block of weights is a row of their array. -/
theorem in3_1 (t : Fin cfg3.N) (r : Fin 512) (k : Fin 16) (i : Fin 8192) (hi : i.val = t.val * 512 + r.val) :
    iblk3 V c 1 t (ix2 r k) = V c main_v11_1 (ix2 i k) := by
  blk_ext [iblk3, idx3 t]

/-- A row of the block of shared outputs is a row of their array. -/
theorem in3_2 (t : Fin cfg3.N) (r : Fin 512) (k : Fin 16) (i : Fin 8192) (hi : i.val = t.val * 512 + r.val) :
    iblk3 V c 2 t (ix2 r k) = V c main_v16 (ix2 i k) := by
  blk_ext [iblk3, idx3 t]

/-- The gate's matrix is read whole. -/
theorem in3_3 (t : Fin cfg3.N) (k : Fin 32) (l : Fin 16) : iblk3 V c 3 t (ix2 k l) = V c main_arg15 (ix2 k l) := by
  blk_ext [iblk3, idx3 t]

/-- The gate's bias is read whole. -/
theorem in3_4 (t : Fin cfg3.N) (l : Fin 16) : iblk3 V c 4 t (ix2 0 l) = V c main_v22 (ix2 0 l) := by
  blk_ext [iblk3, idx3 t]

/-- Where an element of the block of results stands in their array. -/
theorem out3 (t : Fin cfg3.N) (r : Fin 512) (l : Fin 16) :
    ∃ i : Fin 8192, i.val = t.val * 512 + r.val ∧ ((View.whole main_v23).slice (win3_5.rect t)).emb (ix2 r l) = ix2 i l := by
  refine ⟨((View.whole main_v23).slice (win3_5.rect t)).emb (ix2 r l) 0, ?_, ?_⟩
  · blk_ext [idx3 t]
  · blk_ext [idx3 t]

/-- An expert's slab of a block's outputs. -/
def slab (t : Fin cfg3.N) (e : Fin 16) : Vec Ideal S1x512x16 .f32 := View.ld (iblk3 V c 0 t)
  (Rect.unit (s := S16x512x16) ![e.val, 0, 0] S1x512x16.size fun a =>
    match a with
    | ⟨0, _⟩ => e.isLt
    | ⟨1, _⟩ => Nat.le_refl _
    | ⟨2, _⟩ => Nat.le_refl _)

/-- The slab's rows. -/
theorem slab_at (t : Fin cfg3.N) (e : Fin 16) (r : Fin 512) (k : Fin 16) (i : Fin 8192) (hi : i.val = t.val * 512 + r.val) :
    slab V c t e (ix3 0 r k) = V c main_v21 (ix3 e i k) := by
  refine (View.ld_unit_apply_of (S := S16x512x16) _ _ _ _ (ix3 0 r k) (ix3 e r k) fun a => ?_).trans (in3_0 V c t e r k i hi)
  match a with
  | ⟨0, _⟩ => rfl
  | ⟨1, _⟩ => exact (Nat.zero_add _).symm
  | ⟨2, _⟩ => exact (Nat.zero_add _).symm

/-- The upper half of the gate's matrix. -/
theorem upper_at (t : Fin cfg3.N) (k l : Fin 16) : View.ld (iblk3 V c 3 t) r3_17 (ix2 k l) = V c main_arg15 (ix2 ⟨k, by omega⟩ l) := by
  refine (View.ld_unit_apply_of (S := S32x16) _ _ _ _ (ix2 k l) (ix2 ⟨k, by omega⟩ l) fun a => ?_).trans (in3_3 V c t _ l)
  match a with
  | ⟨0, _⟩ => exact (Nat.zero_add _).symm
  | ⟨1, _⟩ => exact (Nat.zero_add _).symm

/-- The lower half of the gate's matrix. -/
theorem lower_at (t : Fin cfg3.N) (k l : Fin 16) :
    View.ld (iblk3 V c 3 t) r3_18 (ix2 k l) = V c main_arg15 (ix2 ⟨16 + k, by omega⟩ l) := by
  refine (View.ld_unit_apply_of (S := S32x16) _ _ _ _ (ix2 k l) (ix2 ⟨16 + k, by omega⟩ l) fun a => ?_).trans (in3_3 V c t _ l)
  match a with
  | ⟨0, _⟩ => rfl
  | ⟨1, _⟩ => exact (Nat.zero_add _).symm

/-- The array of the results, the weights of row `i` being those of the probabilities `p i`. -/
theorem result_array (p : Fin 8192 → Fin 16 → EReal) (hp : ∀ (i : Fin 8192) (e : Fin 16), V c main_v11_1 (ix2 i e) = weight (p i) e) :
    (dat3 (F := Ideal) V c).arrAt 5 cfg3.N = fun (i : S8192x16.Idx) => gate (fun k => routed (p (i 0)) fun e => V c main_v21 (ix3 e (i 0) k))
      (fun k => V c main_v16 (ix2 (i 0) k)) (fun k l => V c main_arg15 (ix2 k l)) (fun k => V c main_v22 (ix2 0 k)) (i 1) := by
  refine (dat3 V c).arrAt_eq_of_covers 5 _ (by decide +kernel) fun t hf y => ?_
  blk_simp
  rw [after3_5]
  unfold out3_5 k3_pay11
  frame_out
  idx_vars y
  obtain ⟨i, hi, he⟩ := out3 t y0 y1
  rw [he]
  refine (combine_at (iblk3 V c 1 t) (slab V c t) (iblk3 V c 2 t) (View.ld (iblk3 V c 3 t) r3_17) (View.ld (iblk3 V c 3 t) r3_18)
    (iblk3 V c 4 t) (fun k l => V c main_arg15 (ix2 k l)) (upper_at V c t) (lower_at V c t) (p i) y0
    (fun e => (in3_1 V c t y0 e i hi).trans (hp i e)) y1).trans ?_
  simp only [fun e k => slab_at V c t e y0 k i hi, fun k => in3_2 V c t y0 k i hi, in3_4]
  rfl

end Cert.Moe
-- ==== Proof.KernelValue.lean ====
/-
  What the kernel's result array holds: the layer of the arguments.
-/
module

public import proofs.«01_k».proof.Proof.HostSteps
public import proofs.«01_k».proof.Proof.Layer
public import proofs.«01_k».proof.Proof.RouterArray
public import proofs.«01_k».proof.Proof.SharedArray
public import proofs.«01_k».proof.Proof.ExpertsArray
public import proofs.«01_k».proof.Proof.CombineArray

@[expose] public section

set_option maxRecDepth 16384

noncomputable section

namespace Cert.Moe

open Idealize.ShloMosaic Idealize.ShloMosaic.TcCoe Cert.KernelIdeal Cert.KernelIdeal.Gen

variable (m : (ℓ : Loc nD τ sig) → Buf (Elt Ideal) ℓ) (ρ : Dev nD → PrngReg) (c : Dev nD)

/-- The kernel's arguments. -/
def kernelArgs : Args where
  x i k := m ((c : Thread nD τ).loc main_arg0) (ix2 i k)
  q i k := m ((c : Thread nD τ).loc main_arg1) (ix2 i k)
  g k := m ((c : Thread nD τ).loc main_arg2) (ix1 k)
  b k := m ((c : Thread nD τ).loc main_arg3) (ix1 k)
  pilot e j k := m ((c : Thread nD τ).loc main_arg4) (ix3 e j k)
  W k l := m ((c : Thread nD τ).loc main_arg5) (ix2 k l)
  d k := m ((c : Thread nD τ).loc main_arg6) (ix1 k)
  W1 e j k := m ((c : Thread nD τ).loc main_arg7) (ix3 e j k)
  b1 e k := m ((c : Thread nD τ).loc main_arg8) (ix2 e k)
  W2 e k l := m ((c : Thread nD τ).loc main_arg9) (ix3 e k l)
  b2 e l := m ((c : Thread nD τ).loc main_arg10) (ix2 e l)
  S1 j k := m ((c : Thread nD τ).loc main_arg11) (ix2 j k)
  c1 k := m ((c : Thread nD τ).loc main_arg12) (ix1 k)
  S2 k l := m ((c : Thread nD τ).loc main_arg13) (ix2 k l)
  c2 l := m ((c : Thread nD τ).loc main_arg14) (ix1 l)
  G k l := m ((c : Thread nD τ).loc main_arg15) (ix2 k l)
  h l := m ((c : Thread nD τ).loc main_arg16) (ix1 l)

/-- The guarded norms of the pilots' rows, as the first launch's host steps leave them. -/
theorem guarded (e : Fin 16) (j : Fin 4) :
    W3 m ρ c (Proc.devRef .tc main_v1) (ix3 e j 0)
      = max (Ideal.ofBits .f32 0x2B8CBCCC#32) (Ideal.sqrt (∑ k, (kernelArgs m c).pilot e j k * (kernelArgs m c).pilot e j k)) := by
  refine host0_v1 _ _ (host0_cst _) (fun e j => Ideal.sqrt (∑ k, (kernelArgs m c).pilot e j k * (kernelArgs m c).pilot e j k)) (fun e j => ?_) e j
  exact (congrFun (W2_of m ρ c main_v0 (by decide)) (ix3 e j 0)).trans (host0_v0 _ (kernelArgs m c).pilot (fun _ _ _ => rfl) e j)

/-- The array of the pilots' means. -/
theorem pilots (k : Fin 2048) (e : Fin 16) : V4 m ρ c main_v7 (ix2 k e) = pilotMean ((kernelArgs m c).pilot e) k := by
  refine (host0_v7 _ (kernelArgs m c).pilot (fun e j k => congrFun (W3_args m ρ c main_arg4 (by decide)) (ix3 e j k)) _ (guarded m ρ c) k e).trans ?_
  unfold pilotMean unit
  simp only [max_comm (Ideal.ofBits .f32 0x2B8CBCCC#32)]

/-- A row of the normalised rows' array, as the first launch computes it. -/
theorem normed_eq (i : Fin 8192) : normed (V4 m ρ) c i = (kernelArgs m c).norm i := by
  refine normRow_congr (fun k => ?_) (fun k => ?_) fun k => ?_
  · exact congrFun (W4_args m ρ c main_arg0 (by decide)) (ix2 i k)
  · exact (host0_v8 _ k).trans (congrFun (W3_args m ρ c main_arg2 (by decide)) (ix1 k))
  · exact (host0_v9 _ k).trans (congrFun (W3_args m ρ c main_arg3 (by decide)) (ix1 k))

/-- The normalised rows after the first launch. -/
theorem rows5 (i : Fin 8192) (k : Fin 2048) : W5 m ρ c (Proc.devRef .tc main_v11_0) (ix2 i k) = (kernelArgs m c).norm i k := by
  refine (congrFun ((W5_arr m ρ c 7).trans (normed_array (V4 m ρ) c)) (ix2 i k)).trans ?_
  exact congrFun (normed_eq m ρ c i) k

/-- The experts' weights after the first launch. -/
theorem weights5 (i : Fin 8192) (e : Fin 16) :
    W5 m ρ c (Proc.devRef .tc main_v11_1) (ix2 i e) = weight ((kernelArgs m c).prob i) e := by
  refine (congrFun ((W5_arr m ρ c 8).trans (weights_array (V4 m ρ) c (kernelArgs m c).pilot (pilots m ρ c))) (ix2 i e)).trans ?_
  refine congrArg (fun p => weight p e) ?_
  refine probs_congr (fun k => ?_) (fun k => ?_) (fun e j k => rfl) (fun k l => ?_) fun k => ?_
  · exact congrFun (normed_eq m ρ c i) k
  · exact congrFun (W4_args m ρ c main_arg1 (by decide)) (ix2 i k)
  · exact congrFun (W4_args m ρ c main_arg5 (by decide)) (ix2 k l)
  · exact (host0_v10 _ k).trans (congrFun (W3_args m ρ c main_arg6 (by decide)) (ix1 k))

/-- The shared network's outputs after the second launch. -/
theorem shared7 (i : Fin 8192) (l : Fin 16) : W7 m ρ c (Proc.devRef .tc main_v16) (ix2 i l) = (kernelArgs m c).shared i l := by
  refine (congrFun ((W7_arr m ρ c 5).trans (shared_array (V6 m ρ) c)) (ix2 i l)).trans ?_
  refine mlp_congr (fun k => ?_) (fun j k => ?_) (fun k => ?_) (fun k l => ?_) (fun l => ?_) l
  · exact (congrFun (W6_of m ρ c main_v11_0 (by decide)) (ix2 i k)).trans (rows5 m ρ c i k)
  · exact (host1_v12 _ j k).trans (congrFun (W5_args m ρ c main_arg11 (by decide)) (ix2 j k))
  · exact (host1_v14 _ k).trans (congrFun (W5_args m ρ c main_arg12 (by decide)) (ix1 k))
  · exact (host1_v13 _ k l).trans (congrFun (W5_args m ρ c main_arg13 (by decide)) (ix2 k l))
  · exact (host1_v15 _ l).trans (congrFun (W5_args m ρ c main_arg14 (by decide)) (ix1 l))

/-- The normalised rows before the third launch. -/
theorem rows8 (i : Fin 8192) (k : Fin 2048) : V8 m ρ c main_v11_0 (ix2 i k) = (kernelArgs m c).norm i k :=
  ((congrFun (W8_of m ρ c main_v11_0 (by decide)) (ix2 i k)).trans
    ((congrFun (W7_of m ρ c main_v11_0 (by decide)) (ix2 i k)).trans
      (congrFun (W6_of m ρ c main_v11_0 (by decide)) (ix2 i k)))).trans (rows5 m ρ c i k)

/-- The experts' outputs after the third launch. -/
theorem experts9 (e : Fin 16) (i : Fin 8192) (l : Fin 16) :
    W9 m ρ c (Proc.devRef .tc main_v21) (ix3 e i l) = (kernelArgs m c).expert e i l := by
  refine (congrFun ((W9_arr m ρ c 5).trans (experts_array (V8 m ρ) c)) (ix3 e i l)).trans ?_
  refine mlp_congr (fun k => ?_) (fun j k => ?_) (fun k => ?_) (fun k l => ?_) (fun l => ?_) l
  · exact rows8 m ρ c i k
  · exact (host2_v17 _ e j k).trans (congrFun (W7_args m ρ c main_arg7 (by decide)) (ix3 e j k))
  · exact (host2_v19 _ e k).trans (congrFun (W7_args m ρ c main_arg8 (by decide)) (ix2 e k))
  · exact (host2_v18 _ e k l).trans (congrFun (W7_args m ρ c main_arg9 (by decide)) (ix3 e k l))
  · exact (host2_v20 _ e l).trans (congrFun (W7_args m ρ c main_arg10 (by decide)) (ix2 e l))

/-- The experts' weights before the fourth launch. -/
theorem weights10 (i : Fin 8192) (e : Fin 16) : V10 m ρ c main_v11_1 (ix2 i e) = weight ((kernelArgs m c).prob i) e :=
  ((congrFun (W10_of m ρ c main_v11_1 (by decide)) (ix2 i e)).trans
    ((congrFun (W9_of m ρ c main_v11_1 (by decide)) (ix2 i e)).trans
      ((congrFun (W8_of m ρ c main_v11_1 (by decide)) (ix2 i e)).trans
        ((congrFun (W7_of m ρ c main_v11_1 (by decide)) (ix2 i e)).trans
          (congrFun (W6_of m ρ c main_v11_1 (by decide)) (ix2 i e)))))).trans (weights5 m ρ c i e)

/-- The shared network's outputs before the fourth launch. -/
theorem shared10 (i : Fin 8192) (l : Fin 16) : V10 m ρ c main_v16 (ix2 i l) = (kernelArgs m c).shared i l :=
  ((congrFun (W10_of m ρ c main_v16 (by decide)) (ix2 i l)).trans
    ((congrFun (W9_of m ρ c main_v16 (by decide)) (ix2 i l)).trans
      (congrFun (W8_of m ρ c main_v16 (by decide)) (ix2 i l)))).trans (shared7 m ρ c i l)

/-- The results after the fourth launch. -/
theorem results11 : W11 m ρ c (Proc.devRef .tc main_v23) = fun (i : S8192x16.Idx) => (kernelArgs m c).result (i 0) (i 1) := by
  refine (W11_arr m ρ c 5).trans ((result_array (V10 m ρ) c (kernelArgs m c).prob (weights10 m ρ c)).trans ?_)
  funext i
  refine gate_congr (fun k => ?_) (fun l => ?_) (fun k l => ?_) (fun l => ?_) (i 1)
  · refine congrArg (routed _) (funext fun e => ?_)
    exact (congrFun (W10_of m ρ c main_v21 (by decide)) (ix3 e (i 0) k)).trans (experts9 m ρ c e (i 0) k)
  · exact shared10 m ρ c (i 0) l
  · exact congrFun (W10_args m ρ c main_arg15 (by decide)) (ix2 k l)
  · exact (host3_v22 _ l).trans (congrFun (W9_args m ρ c main_arg16 (by decide)) (ix1 l))

/-- The kernel's result: the layer's outputs, eight pairs to a row. -/
theorem result12 : W12 m ρ c (Proc.devRef .tc main_v24)
    = shapeCast S65536x2 (fun (i : S8192x16.Idx) => (kernelArgs m c).result (i 0) (i 1)) shapeCasts_S8192x16_S65536x2 := by
  rw [← results11 m ρ c]
  unfold_abbrev_sides
  after_results
  rfl

end Cert.Moe

end
-- ==== Proof.KernelRun.lean ====
/-
  The kernel's run: every execution ends with the result array at the layer of the arguments.
-/
module

public import proofs.«01_k».proof.Proof.KernelValue

@[expose] public section

noncomputable section

namespace Cert.Moe

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution of the kernel ends, and the result array then holds the layer's outputs, eight pairs to a row. -/
theorem kernel_run : θ_run (defs (F := Ideal)) (onTc (τ := τ) (main (F := Ideal))) ⟨m, fun _ => 0, ρ⟩ (fun r => ∀ c : Dev nD,
      r.2.mem ((c.tc : Thread nD τ).loc main_v24)
        = shapeCast S65536x2 (fun (i : S8192x16.Idx) => (kernelArgs m c).result (i 0) (i 1)) shapeCasts_S8192x16_S65536x2) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ c => (h c _ (mem_uc main_v24 (by decide))).trans (result12 m ρ c))

end Cert.Moe

end
-- ==== Proof.ReferenceArgs.lean ====
/-
  The reference's normalised rows, queries and logits, as the layer's functions of its arguments.
-/
module

public import proofs.«01_k».proof.Proof.Gen.ReferenceIdeal.Run
public import proofs.«01_k».proof.Proof.Router
public import proofs.«01_k».proof.Proof.Layer
public import Idealize.ShloMosaic.Lib.Tactic.CleanTypes

@[expose] public section

set_option maxRecDepth 16384

noncomputable section

namespace Cert.Moe

open Idealize.ShloMosaic Cert.ReferenceIdeal Cert.ReferenceIdeal.Value

variable (V : Valuation τ sig (Elt Ideal))

/-- The layer's arguments as the reference's buffers hold them. -/
def refArgs : Args where
  x := fun i k => V (Proc.devRef .tc main_arg0) (ix2 i k)
  q := fun i k => V (Proc.devRef .tc main_arg1) (ix2 i k)
  g := fun k => V (Proc.devRef .tc main_arg2) (ix1 k)
  b := fun k => V (Proc.devRef .tc main_arg3) (ix1 k)
  pilot := fun e j k => V (Proc.devRef .tc main_arg4) (ix3 e j k)
  W := fun k l => V (Proc.devRef .tc main_arg5) (ix2 k l)
  d := fun l => V (Proc.devRef .tc main_arg6) (ix1 l)
  W1 := fun e j k => V (Proc.devRef .tc main_arg7) (ix3 e j k)
  b1 := fun e k => V (Proc.devRef .tc main_arg8) (ix2 e k)
  W2 := fun e k l => V (Proc.devRef .tc main_arg9) (ix3 e k l)
  b2 := fun e l => V (Proc.devRef .tc main_arg10) (ix2 e l)
  S1 := fun j k => V (Proc.devRef .tc main_arg11) (ix2 j k)
  c1 := fun k => V (Proc.devRef .tc main_arg12) (ix1 k)
  S2 := fun k l => V (Proc.devRef .tc main_arg13) (ix2 k l)
  c2 := fun l => V (Proc.devRef .tc main_arg14) (ix1 l)
  G := fun k l => V (Proc.devRef .tc main_arg15) (ix2 k l)
  h := fun l => V (Proc.devRef .tc main_arg16) (ix1 l)

/-- The variance's divisor, 2048 less the zero word's integer, is 2048. -/
theorem divisor_eq : Ideal.ofBits .f32 0x45000000#32 - (FloatOps.sitofp (F := Ideal) .f32 0#32 : EReal) = Ideal.ofBits .f32 0x45000000#32 := by
  rw [show (FloatOps.sitofp (F := Ideal) .f32 0#32 : EReal) = 0 from by
    show (((0#32 : BitVec 32).toInt : ℝ) : EReal) = 0
    simp, sub_zero]

/-- The variance's divisor is positive. -/
theorem divisor_pos : (0 : EReal) < Ideal.ofBits .f32 0x45000000#32 := by
  rw [word_2048]; exact_mod_cast (by norm_num : (0 : ℝ) < 2048)

/-- The reference's normalised rows. -/
theorem ref_norm (r : Fin 8192) (l : Fin 2048) :
    (res_main_v17 V : FVec Ideal S8192x2048 .f32) (ix2 r l) = (refArgs V).norm r l := by
  refine Eq.trans ?_ (normRow_div _ _ _ l)
  clean_types
  pointwise [res_main_v17, res_main_call0_v5, res_main_call0_v8]
  simp only [divisor_eq, divisor_pos, if_true]
  rfl

/-- The reference's queries. -/
theorem ref_query (r : Fin 8192) (l : Fin 2048) :
    (res_main_v22 V : FVec Ideal S8192x2048 .f32) (ix2 r l) = (refArgs V).query r l := by
  have hN : (refArgs V).norm r = fun k => (res_main_v17 V : FVec Ideal S8192x2048 .f32) (ix2 r k) := funext fun k => (ref_norm V r k).symm
  unfold Args.query
  rw [hN]
  clean_types
  pointwise [res_main_v22]
  rfl

/-- A row divided by its guarded norm, the guard written first. -/
theorem unit_comm (v : Fin 2048 → EReal) (l : Fin 2048) :
    Ideal.div (v l) (max (Ideal.ofBits .f32 0x2B8CBCCC#32) (Ideal.sqrt (∑ k, v k * v k))) = unit v l := by
  unfold unit; rw [max_comm]

/-- The reference's logits. -/
theorem ref_logit (r : Fin 8192) (e : Fin 16) :
    (res_main_v39 V : FVec Ideal S8192x16 .f32) (ix2 r e) = logit ((refArgs V).query r) ((refArgs V).pilot e) := by
  have hN : (refArgs V).query r = fun k => (res_main_v22 V : FVec Ideal S8192x2048 .f32) (ix2 r k) := funext fun k => (ref_query V r k).symm
  rw [hN, ← (logit_eq _ _).1]
  refine Eq.trans ?_ (congrArg (fun s => Ideal.div (Ideal.div s _) _) (Finset.sum_congr rfl fun c _ => Finset.sum_congr rfl fun k _ =>
    congrArg₂ (· * ·) (unit_comm _ k) (unit_comm _ k)))
  clean_types
  pointwise [res_main_v39]
  rfl

end Cert.Moe

end
-- ==== Proof.ReferenceRouter.lean ====
/-
  The reference's router: the probabilities, the two greatest, and their shares.
-/
module

public import proofs.«01_k».proof.Proof.ReferenceArgs

@[expose] public section

set_option maxRecDepth 16384

noncomputable section

namespace Cert.Moe

open Idealize.ShloMosaic Cert.ReferenceIdeal Cert.ReferenceIdeal.Value

variable (V : Valuation τ sig (Elt Ideal))

/-- The reference's logits as an array of extended reals. -/
def logits : FVec Ideal S8192x16 .f32 := res_main_v39 V

/-- The exponentials of the reference's logits as an array of extended reals. -/
def exps : FVec Ideal S8192x16 .f32 := res_main_v46 V

/-- The reference's probabilities as an array of extended reals. -/
def probabilities : FVec Ideal S8192x16 .f32 := res_main_v50 V

/-- The exponential of each logit less its row's greatest. -/
theorem exps_apply (r : Fin 8192) (e : Fin 16) :
    exps V (ix2 r e) = Ideal.exp (logits V (ix2 r e) - Finset.univ.fold max ⊥ fun k : Fin 16 => logits V (ix2 r k)) := by
  unfold exps res_main_v46 logits
  generalize (res_main_v39 V : FVec Ideal S8192x16 .f32) = z
  clean_types
  pointwise []
  rw [word_bot]
  exact congrArg (fun t => Ideal.exp (_ - t)) (max_eq_right bot_le)

/-- The reference's probabilities. -/
theorem ref_prob (r : Fin 8192) (e : Fin 16) : probabilities V (ix2 r e) = (refArgs V).prob r e := by
  have hz : (fun e => logit ((refArgs V).query r) ((refArgs V).pilot e)) = fun k => logits V (ix2 r k) :=
    funext fun k => (ref_logit V r k).symm
  refine Eq.trans (b := Ideal.div (exps V (ix2 r e)) (∑ k, exps V (ix2 r k))) ?_ ?_
  · unfold probabilities
    clean_types
    pointwise [res_main_v50]
    rfl
  · show _ = softmax (fun e => logit ((refArgs V).query r) ((refArgs V).pilot e)) e
    rw [hz]
    unfold softmax
    simp only [exps_apply]

/-- The total order's "greater" as a truth value. -/
theorem greater_eq (x y : Ideal .f32) : (FloatOps.cmpfTotal (F := Ideal) .gt x y == 1#1) = decide ((y : EReal) < x) := by
  rw [Ideal.cmpfTotal_def]
  show (BitVec.ofBool (decide ((y : EReal) < x)) == 1#1) = _
  cases decide ((y : EReal) < x) <;> rfl

/-- Replacing the column of a position keeps its row. -/
theorem along_col {n m : ℕ} (r : Fin n) (e k : Fin m) : (ix2 r e : Shape.Idx ⟨2, ![n, m]⟩).along 1 k = ix2 r k := funext fun a => by
  match a with
  | 0 => rfl
  | 1 => rfl

/-- Sorting sixteen columns stably by the greater number first, a second array carried along: at column `e` stand the number of
    rank `e` and the second array's element of its column. -/
theorem sort_row {n : ℕ} (z : FVec Ideal ⟨2, ![n, 16]⟩ .f32) (y : IVec ⟨2, ![n, 16]⟩ 32) (r : Fin n) (e : Fin 16) :
    (Host.sort2 ⟨2, ![n, 16]⟩ 1 (fun a b => FloatOps.cmpfTotal (F := Ideal) (φ := .f32) .gt a.1 b.1) z y).1 (ix2 r e)
        = z (ix2 r (rank (fun k => z (ix2 r k)) e))
    ∧ (Host.sort2 ⟨2, ![n, 16]⟩ 1 (fun a b => FloatOps.cmpfTotal (F := Ideal) (φ := .f32) .gt a.1 b.1) z y).2 (ix2 r e)
        = y (ix2 r (rank (fun k => z (ix2 r k)) e)) := by
  have hs : sortedFrom (fun k k' : Fin 16 => FloatOps.cmpfTotal (F := Ideal) (φ := .f32) .gt
      (z ((ix2 r e : Shape.Idx ⟨2, ![n, 16]⟩).along 1 k)) (z ((ix2 r e : Shape.Idx ⟨2, ![n, 16]⟩).along 1 k')) == 1#1) e
      = rank (fun k => z (ix2 r k)) e := by
    unfold rank
    simp only [along_col, greater_eq]
  rw [← hs]
  exact ⟨congrArg z (along_col r e _), congrArg y (along_col r e _)⟩

/-- The two greatest of each row of sixteen and their columns. -/
theorem topTwo_row {n : ℕ} (z : FVec Ideal ⟨2, ![n, 16]⟩ .f32) (h : Shape.Slices ⟨2, ![n, 16]⟩ (fun _ => 0) ⟨2, ![n, 2]⟩) (r : Fin n) (l : Fin 2) :
    (Host.topK ⟨2, ![n, 2]⟩ 1 (FloatOps.cmpfTotal (F := Ideal) (φ := .f32) .gt) z h).1 (ix2 r l)
        = z (ix2 r (rank (fun e => z (ix2 r e)) ⟨l, by omega⟩))
    ∧ (Host.topK ⟨2, ![n, 2]⟩ 1 (FloatOps.cmpfTotal (F := Ideal) (φ := .f32) .gt) z h).2 (ix2 r l)
        = BitVec.ofNat 32 (rank (fun e => z (ix2 r e)) ⟨l, by omega⟩).val := by
  have hz : (fun a => ⟨(fun _ => 0) a + (ix2 r l (Fin.cast h.1.symm a)).val,
        Nat.lt_of_lt_of_le (Nat.add_lt_add_left (ix2 r l (Fin.cast h.1.symm a)).isLt _) (h.2 a)⟩ : Shape.Idx ⟨2, ![n, 16]⟩)
      = ix2 r ⟨l, by omega⟩ := funext fun a => by
    match a with
    | 0 => exact Fin.ext (Nat.zero_add _)
    | 1 => exact Fin.ext (Nat.zero_add _)
  have H := sort_row z (fun i => if hd : 1 < Shape.rank ⟨2, ![n, 16]⟩ then iotaInDim ⟨2, ![n, 16]⟩ 32 ⟨1, hd⟩ i else 0#32) r ⟨l, by omega⟩
  refine ⟨(congrArg _ hz).trans H.1, (congrArg _ hz).trans (H.2.trans ?_)⟩
  rw [dif_pos (show 1 < 2 by decide)]
  rfl

/-- The reference's chosen probabilities as an array of extended reals. -/
def chosen : FVec Ideal S8192x2 .f32 := res_main_values V

/-- The reference's chosen experts as an array of words. -/
def columns : IVec S8192x2 32 := res_main_indices V

/-- The reference's row of probabilities. -/
theorem ref_prob_row (r : Fin 8192) : (fun e => probabilities V (ix2 r e)) = (refArgs V).prob r := funext (ref_prob V r)

/-- The reference's chosen probabilities are the two of ranks zero and one. -/
theorem ref_chosen (r : Fin 8192) (l : Fin 2) :
    chosen V (ix2 r l) = (refArgs V).prob r (rank ((refArgs V).prob r) ⟨l, by omega⟩) := by
  rw [← ref_prob_row]
  exact (topTwo_row (probabilities V) _ r l).1

/-- The reference's chosen experts are the columns of ranks zero and one. -/
theorem ref_columns (r : Fin 8192) (l : Fin 2) :
    columns V (ix2 r l) = BitVec.ofNat 32 (rank ((refArgs V).prob r) ⟨l, by omega⟩).val := by
  rw [← ref_prob_row]
  exact (topTwo_row (probabilities V) _ r l).2

/-- The reference's shares of the two chosen. -/
theorem ref_share (r : Fin 8192) (l : Fin 2) :
    (res_main_v56 V : FVec Ideal S8192x2 .f32) (ix2 r l) = share ((refArgs V).prob r) (rank ((refArgs V).prob r) ⟨l, by omega⟩) := by
  refine Eq.trans (b := Ideal.div (chosen V (ix2 r l)) (∑ k, chosen V (ix2 r k) + Ideal.ofBits .f32 0x358637BD#32)) ?_ ?_
  · unfold chosen
    clean_types
    pointwise [res_main_v56]
  · rw [Fin.sum_univ_two]
    simp only [ref_chosen]
    rfl

end Cert.Moe

end
-- ==== Proof.GatherPair.lean ====
/-
  Gathering from a three-axis array by a pair of words per row: the first names the leading axis's position, the second the
  middle axis's, and the whole last axis is taken.
-/
module

public import Idealize.ShloMosaic.PureOps
public import Idealize.ShloMosaic.Lib.Pointwise.Index

@[expose] public section

namespace Cert.Moe

open Idealize.ShloMosaic

/-- The dimension numbers of such a gather. -/
abbrev pairDims (E N O : ℕ) (wf : GatherDims.WF ⟨3, ![E, N, O]⟩ ⟨2, ![N, 2]⟩ ⟨2, ![N, O]⟩ [1] [0, 1] [] [0, 1] [] 1 ![1, 1, O]) :
    GatherDims ⟨3, ![E, N, O]⟩ ⟨2, ![N, 2]⟩ ⟨2, ![N, O]⟩ where
  offsetDims := [1]
  collapsedSliceDims := [0, 1]
  operandBatchingDims := []
  startIndicesBatchingDims := []
  startIndexMap := [0, 1]
  indexVectorDim := 1
  sliceSizes := ![1, 1, O]
  wf := wf

/-- Where a row's words are `e` and `i`, the gather reads the array at `(e, i, o)`. -/
theorem gather_pair {α : Type} {E N O : ℕ}
    (wf : GatherDims.WF ⟨3, ![E, N, O]⟩ ⟨2, ![N, 2]⟩ ⟨2, ![N, O]⟩ [1] [0, 1] [] [0, 1] [] 1 ![1, 1, O])
    (x : Shape.Idx ⟨3, ![E, N, O]⟩ → α) (idx : IVec ⟨2, ![N, 2]⟩ 32) (r : Fin N) (o : Fin O) (e : Fin E) (i : Fin N)
    (he : (idx (ix2 r 0)).toInt = e.val) (hi : (idx (ix2 r 1)).toInt = i.val) :
    Host.gather (pairDims E N O wf) x idx (ix2 r o) = x (ix3 e i o) := by
  have hc : ∀ a : Fin 3, a ∈ (pairDims E N O wf).collapsedSliceDims → a ∉ (pairDims E N O wf).sKept := fun a ha h =>
    ((GatherDims.mem_sKept _ _).mp h).1 ha
  have hsi : ∀ k : Fin 2, (pairDims E N O wf).siIdx (ix2 r o) k = ix2 r k := fun k => funext fun b => by
    match b with
    | 0 => rfl
    | 1 => rfl
  unfold Host.gather
  refine congrArg x (funext fun a => Fin.ext ?_)
  show (pairDims E N O wf).start (ix2 r o) idx a + (pairDims E N O wf).batchCoord (ix2 r o) a + (pairDims E N O wf).offCoord (ix2 r o) a = _
  rw [GatherDims.batchCoord_eq_zero _ _ _ List.not_mem_nil, Nat.add_zero]
  match a with
  | 0 =>
    rw [GatherDims.offCoord_eq_zero _ _ _ (hc 0 (by simp)), Nat.add_zero]
    unfold GatherDims.start
    rw [dif_pos (by simp), hsi]
    show min (idx (ix2 r 0)).toInt.toNat (E - 1) = e.val
    rw [he]; have := e.isLt; omega
  | 1 =>
    rw [GatherDims.offCoord_eq_zero _ _ _ (hc 1 (by simp)), Nat.add_zero]
    unfold GatherDims.start
    rw [dif_pos (by simp), hsi]
    show min (idx (ix2 r 1)).toInt.toNat (N - 1) = i.val
    rw [hi]; have := i.isLt; omega
  | 2 =>
    unfold GatherDims.start
    rw [dif_neg (by simp), Nat.zero_add]
    unfold GatherDims.offCoord
    rw [dif_pos ((GatherDims.mem_sKept _ _).mpr ⟨by simp, by simp⟩)]
    rfl

end Cert.Moe
-- ==== Proof.ReferenceValue.lean ====
/-
  The reference's result: the layer of its arguments.
-/
module

public import proofs.«01_k».proof.Proof.ReferenceRouter
public import proofs.«01_k».proof.Proof.GatherPair

@[expose] public section

set_option maxRecDepth 16384

noncomputable section

namespace Cert.Moe

open Idealize.ShloMosaic Cert.ReferenceIdeal Cert.ReferenceIdeal.Gen Cert.ReferenceIdeal.Value

variable (V : Valuation τ sig (Elt Ideal))

/-- The reference's experts' outputs as an array of extended reals. -/
def outputs : FVec Ideal S16x8192x16 .f32 := res_main_v66 V

/-- The reference's normalised rows as one function. -/
theorem ref_norm_row (r : Fin 8192) : (refArgs V).norm r = fun k => (res_main_v17 V : FVec Ideal S8192x2048 .f32) (ix2 r k) :=
  funext fun k => (ref_norm V r k).symm

/-- A network's outputs with the first layer's factors in the other order. -/
theorem mlp_swap (n : Fin 2048 → EReal) (W1 : Fin 2048 → Fin 2048 → EReal) (b1 : Fin 2048 → EReal) (W2 : Fin 2048 → Fin 16 → EReal)
    (b2 : Fin 16 → EReal) (l : Fin 16) :
    ∑ k, max (∑ j, W1 j k * n j + b1 k) 0 * W2 k l + b2 l = mlp n W1 b1 W2 b2 l := by
  have h : ∀ j k, W1 j k * n j = n j * W1 j k := fun j k => mul_comm _ _
  unfold mlp
  simp only [h]

/-- The reference's experts' outputs. -/
theorem ref_outputs (e : Fin 16) (r : Fin 8192) (l : Fin 16) : outputs V (ix3 e r l) = (refArgs V).expert e r l := by
  unfold Args.expert
  rw [ref_norm_row, ← mlp_swap]
  unfold outputs
  clean_types
  pointwise [res_main_v66]
  rfl

/-- Each row's pair of words: the expert's, and the row's own. -/
def pairs (col row : IVec S8192 32) : IVec S8192x2 32 :=
  concatenate S8192x2 1
    [⟨S8192x1, broadcastInDim S8192x1 ![0] bcast_S8192_S8192x1_0 (select (cmpi .slt col (broadcastInDim S8192 ![] bcast_S_S8192 (constantI S_ 32 0#32)))
        (addi col (broadcastInDim S8192 ![] bcast_S_S8192 (constantI S_ 32 16#32))) col)⟩,
      ⟨S8192x1, broadcastInDim S8192x1 ![0] bcast_S8192_S8192x1_0 (select (cmpi .slt row (broadcastInDim S8192 ![] bcast_S_S8192 (constantI S_ 32 0#32)))
        (addi row (broadcastInDim S8192 ![] bcast_S_S8192 (constantI S_ 32 8192#32))) row)⟩] concatenates_S8192x1_S8192x1_S8192x2_d1

/-- A word below 8192 that is not negative is kept by the wrap-around of negative ones, and is its number. -/
theorem kept (n : ℕ) (hn : n ≤ 8192) (w : BitVec 32) :
    (if BitVec.slt (BitVec.ofNat 32 n) 0#32 then BitVec.ofNat 32 n + w else BitVec.ofNat 32 n).toInt = (n : ℤ) := by
  have h : (BitVec.ofNat 32 n).toInt = (n : ℤ) := by
    rw [BitVec.toInt_eq_toNat_cond, BitVec.toNat_ofNat, Nat.mod_eq_of_lt (by omega), if_pos (by omega)]
  rw [if_neg (by rw [BitVec.slt_eq_decide, h]; simp), h]

/-- The selection by the sign of a word. -/
theorem select_neg (x w : BitVec 32) :
    Scalar.select (IntOp.cmpi .slt x 0#32) (IntOp.addi x w) x = if BitVec.slt x 0#32 then x + w else x := by
  unfold Scalar.select IntOp.cmpi IntOp.addi
  cases BitVec.slt x 0#32 <;> rfl

/-- The pair's first word. -/
theorem pairs_col (col row : IVec S8192 32) (r : Fin 8192) (e : Fin 16) (h : col (ix1 r) = BitVec.ofNat 32 e.val) :
    (pairs col row (ix2 r 0)).toInt = e.val := by
  rw [← kept e.val (by omega) 16#32, ← h]
  clean_types
  pointwise [pairs]
  rw [select_neg]

/-- The pair's second word. -/
theorem pairs_row (col row : IVec S8192 32) (r : Fin 8192) (h : row (ix1 r) = BitVec.ofNat 32 r.val) :
    (pairs col row (ix2 r 1)).toInt = r.val := by
  rw [← kept r.val (by omega) 8192#32, ← h]
  clean_types
  pointwise [pairs]
  rw [select_neg]

/-- A gather by a row's pair reads the row's output of the expert the pair names. -/
theorem gather_outputs (col : IVec S8192 32) (r : Fin 8192) (e l : Fin 16) (h : col (ix1 r) = BitVec.ofNat 32 e.val) :
    Host.gather gather_S16x8192x16_S8192x2_S8192x16_1_01_n_n_01_1_1116 (outputs V) (pairs col (res_main_v68 V)) (ix2 r l)
      = (refArgs V).expert e r l := by
  refine (gather_pair _ (outputs V) _ r l e r (pairs_col _ _ r e h) (pairs_row _ _ r ?_)).trans (ref_outputs V e r l)
  clean_types
  pointwise [res_main_v68]

/-- The first chosen expert of a row. -/
theorem ref_first (r : Fin 8192) : (res_main_v70 V : IVec S8192 32) (ix1 r) = BitVec.ofNat 32 (rank ((refArgs V).prob r) 0).val := by
  refine Eq.trans ?_ (ref_columns V r 0)
  unfold columns
  clean_types
  pointwise [res_main_v70]

/-- The second chosen expert of a row. -/
theorem ref_second (r : Fin 8192) : (res_main_v90 V : IVec S8192 32) (ix1 r) = BitVec.ofNat 32 (rank ((refArgs V).prob r) 1).val := by
  refine Eq.trans ?_ (ref_columns V r 1)
  unfold columns
  clean_types
  pointwise [res_main_v90]

/-- The reference's shares as an array of extended reals. -/
def shares : FVec Ideal S8192x2 .f32 := res_main_v56 V

/-- The chosen experts' outputs by their shares, as the reference adds them. -/
theorem ref_mixed (r : Fin 8192) (l : Fin 16) :
    shares V (ix2 r 0) * Host.gather gather_S16x8192x16_S8192x2_S8192x16_1_01_n_n_01_1_1116 (outputs V) (pairs (res_main_v70 V) (res_main_v68 V)) (ix2 r l)
      + shares V (ix2 r 1) * Host.gather gather_S16x8192x16_S8192x2_S8192x16_1_01_n_n_01_1_1116 (outputs V) (pairs (res_main_v90 V) (res_main_v68 V)) (ix2 r l)
      = (refArgs V).mixed r l := by
  rw [gather_outputs V _ r _ l (ref_first V r), gather_outputs V _ r _ l (ref_second V r)]
  exact congrArg₂ (fun a b => a * _ + b * _) (ref_share V r 0) (ref_share V r 1)

/-- The reference's result array: the layer's outputs, eight pairs to a row. -/
theorem ref_result : (val3 V (Proc.devRef .tc main_v129) : FVec Ideal S65536x2 .f32)
    = shapeCast S65536x2 (fun (i : S8192x16.Idx) => (refArgs V).result (i 0) (i 1)) shapeCasts_S8192x16_S65536x2 := by
  rw [val3_main_v129]
  refine congrArg (fun z => shapeCast S65536x2 z shapeCasts_S8192x16_S65536x2) (funext fun i => ?_)
  idx_vars i
  refine Eq.trans ?_ (gate_congr (fun k => ref_mixed V i0 k)
    (fun k => mlp_congr (fun j => ref_norm V i0 j) (fun _ _ => rfl) (fun _ => rfl) (fun _ _ => rfl) (fun _ => rfl) k) (fun _ _ => rfl) (fun _ => rfl) i1)
  clean_types
  pointwise []
  rfl

end Cert.Moe

end
-- ==== Proof.Agreement.lean ====
/-
  From memories agreeing on the arguments, the kernel and the reference end with the same result array.
-/
module

public import proofs.«01_k».proof.Defs
public import proofs.«01_k».proof.Proof.KernelRun
public import proofs.«01_k».proof.Proof.ReferenceValue
public import Idealize.ShloMosaic.Lib.Claim
public import Idealize.ShloMosaic.Lib.StableHlo.RunHlo
public import Idealize.ShloMosaic.Lib.Quiescent

@[expose] public section

noncomputable section

namespace Cert.Moe

open Idealize.ShloMosaic Idealize.ShloMosaic.TcCoe Idealize.SL.Sem

/-- Every execution of the reference ends, its arguments as launched and every counter at zero. -/
theorem reference_frame : Cert.quiescent_ReferenceIdeal := fun m ρ _ =>
  θ_run_mono (Cert.ReferenceIdeal.Value.run (F := Ideal) m ρ) fun r h => ⟨fun c => (h c).2, sem_eq_zero_of_no_sems (by decide) r.2⟩

/-- The kernel's one named constant has the value its name states. -/
theorem constant_preserved : Cert.preserves_Kernel_KernelIdeal :=
  IdealRules.named_const.statement Cert.KernelIdeal.κ "inv_temp" .f32 0x41200000#32 _ rfl

/-- The kernel and the reference compute the same layer of the same arguments. -/
theorem same_result : Cert.algebraic_KernelIdeal_ReferenceIdeal := by
  intro m ρ m' ρ' _ hagree
  refine ⟨_, θ_run_mono (θ_run_and (kernel_run m ρ) (Cert.KernelIdeal.Gen.unchanged (F := Ideal) m ρ)) fun r h c => ⟨h.1 c, h.2 c⟩, ?_⟩
  refine θ_run_mono (Cert.ReferenceIdeal.Value.run (F := Ideal) m' ρ') fun r h c => ⟨(h c).1.trans ?_, (h c).2⟩
  have hargs : refArgs (StableHlo.launchContents m' c) = kernelArgs m c := by
    obtain ⟨h0, h1, h2, h3, h4, h5, h6, h7, h8, h9, h10, h11, h12, h13, h14, h15, h16⟩ := hagree c
    unfold refArgs kernelArgs
    rw [Args.mk.injEq]
    exact ⟨funext fun i => funext fun k => congrFun h0 (ix2 i k), funext fun i => funext fun k => congrFun h1 (ix2 i k),
      funext fun k => congrFun h2 (ix1 k), funext fun k => congrFun h3 (ix1 k),
      funext fun e => funext fun j => funext fun k => congrFun h4 (ix3 e j k), funext fun k => funext fun l => congrFun h5 (ix2 k l),
      funext fun l => congrFun h6 (ix1 l), funext fun e => funext fun j => funext fun k => congrFun h7 (ix3 e j k),
      funext fun e => funext fun k => congrFun h8 (ix2 e k), funext fun e => funext fun k => funext fun l => congrFun h9 (ix3 e k l),
      funext fun e => funext fun l => congrFun h10 (ix2 e l), funext fun j => funext fun k => congrFun h11 (ix2 j k),
      funext fun k => congrFun h12 (ix1 k), funext fun k => funext fun l => congrFun h13 (ix2 k l), funext fun l => congrFun h14 (ix1 l),
      funext fun k => funext fun l => congrFun h15 (ix2 k l), funext fun l => congrFun h16 (ix1 l)⟩
  refine (Cert.ReferenceIdeal.Value.val3_main_v129 (StableHlo.launchContents m' c)).symm.trans ((ref_result _).trans ?_)
  rw [hargs]

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agreement
public import Idealize.ShloMosaic.Adequacy
public import Idealize.ShloMosaic.Init

@[expose] public section

noncomputable section

namespace Cert.Proof

open Idealize.ShloMosaic Idealize.SL.Sem Cert.Kernel

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.Moe.reference_frame,
  Cert.Moe.constant_preserved, Cert.Moe.same_result⟩

end Cert.Proof

end
